-- ==== Defs.lean ====
def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_RefFinalIdeal (m : (ℓ : Loc Cert.RefFinalIdeal.nD Cert.RefFinalIdeal.τ Cert.RefFinalIdeal.sig) → Buf (Elt Ideal) ℓ) : Prop :=
  True

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1))
      ∧ r.2.sem = fun _ => 0)

def preserves_FfnNorm_FfnNormIdeal : Prop :=
  True

def algebraic_FfnNormIdeal_RefNormIdeal [hFfnNormIdeal : Cert.FfnNormIdeal.Facts] [hRefNormIdeal : Cert.RefNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_FfnNormIdeal m →
    (∀ c : Dev Cert.FfnNormIdeal.nD,
      m' ((c.tc : Thread Cert.RefNormIdeal.nD Cert.RefNormIdeal.τ).loc Cert.RefNormIdeal.main_arg0) = m ((c.tc : Thread Cert.FfnNormIdeal.nD Cert.FfnNormIdeal.τ).loc Cert.FfnNormIdeal.main_arg0)
      ∧ m' ((c.tc : Thread Cert.RefNormIdeal.nD Cert.RefNormIdeal.τ).loc Cert.RefNormIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v4)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v4) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v16) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_FfnUp_FfnUpIdeal : Prop :=
  True

def algebraic_FfnUpIdeal_RefUpIdeal [hFfnUpIdeal : Cert.FfnUpIdeal.Facts] [hRefUpIdeal : Cert.RefUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_FfnUpIdeal m →
    (∀ c : Dev Cert.FfnUpIdeal.nD,
      m' ((c.tc : Thread Cert.RefUpIdeal.nD Cert.RefUpIdeal.τ).loc Cert.RefUpIdeal.main_arg0) = m ((c.tc : Thread Cert.FfnUpIdeal.nD Cert.FfnUpIdeal.τ).loc Cert.FfnUpIdeal.main_arg0)
      ∧ m' ((c.tc : Thread Cert.RefUpIdeal.nD Cert.RefUpIdeal.τ).loc Cert.RefUpIdeal.main_arg1) = m ((c.tc : Thread Cert.FfnUpIdeal.nD Cert.FfnUpIdeal.τ).loc Cert.FfnUpIdeal.main_arg1)
      ∧ m' ((c.tc : Thread Cert.RefUpIdeal.nD Cert.RefUpIdeal.τ).loc Cert.RefUpIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v9) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_FfnDown_FfnDownIdeal : Prop :=
  True

def algebraic_FfnDownIdeal_RefDownIdeal [hFfnDownIdeal : Cert.FfnDownIdeal.Facts] [hRefDownIdeal : Cert.RefDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_FfnDownIdeal m →
    (∀ c : Dev Cert.FfnDownIdeal.nD,
      m' ((c.tc : Thread Cert.RefDownIdeal.nD Cert.RefDownIdeal.τ).loc Cert.RefDownIdeal.main_arg0) = m ((c.tc : Thread Cert.FfnDownIdeal.nD Cert.FfnDownIdeal.τ).loc Cert.FfnDownIdeal.main_arg0)
      ∧ m' ((c.tc : Thread Cert.RefDownIdeal.nD Cert.RefDownIdeal.τ).loc Cert.RefDownIdeal.main_arg1) = m ((c.tc : Thread Cert.FfnDownIdeal.nD Cert.FfnDownIdeal.τ).loc Cert.FfnDownIdeal.main_arg1)
      ∧ m' ((c.tc : Thread Cert.RefDownIdeal.nD Cert.RefDownIdeal.τ).loc Cert.RefDownIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v8) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_InProj_InProjIdeal : Prop :=
  True

def algebraic_InProjIdeal_RefInIdeal [hInProjIdeal : Cert.InProjIdeal.Facts] [hRefInIdeal : Cert.RefInIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInIdeal.nD Cert.RefInIdeal.τ Cert.RefInIdeal.sig) → Buf (Elt Ideal) ℓ) (g' : Dev Cert.RefInIdeal.nD → PrngReg), Pre_InProjIdeal m →
    (∀ c : Dev Cert.InProjIdeal.nD,
      m' ((c.tc : Thread Cert.RefInIdeal.nD Cert.RefInIdeal.τ).loc Cert.RefInIdeal.main_arg0) = m ((c.tc : Thread Cert.InProjIdeal.nD Cert.InProjIdeal.τ).loc Cert.InProjIdeal.main_arg0)
      ∧ m' ((c.tc : Thread Cert.RefInIdeal.nD Cert.RefInIdeal.τ).loc Cert.RefInIdeal.main_arg1) = m ((c.tc : Thread Cert.InProjIdeal.nD Cert.InProjIdeal.τ).loc Cert.InProjIdeal.main_arg1)
      ∧ m' ((c.tc : Thread Cert.RefInIdeal.nD Cert.RefInIdeal.τ).loc Cert.RefInIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v41) = v0 c
          ∧ r.2.mem ((c.tc : Thread Cert.RefInIdeal.nD Cert.RefInIdeal.τ).loc Cert.RefInIdeal.main_v49) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v26) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6))

def preserves_OutProj_OutProjIdeal : Prop :=
  True

def algebraic_OutProjIdeal_RefOutIdeal [hOutProjIdeal : Cert.OutProjIdeal.Facts] [hRefOutIdeal : Cert.RefOutIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutProjIdeal m →
    (∀ c : Dev Cert.OutProjIdeal.nD,
      m' ((c.tc : Thread Cert.RefOutIdeal.nD Cert.RefOutIdeal.τ).loc Cert.RefOutIdeal.main_arg0) = m ((c.tc : Thread Cert.OutProjIdeal.nD Cert.OutProjIdeal.τ).loc Cert.OutProjIdeal.main_arg0)
      ∧ m' ((c.tc : Thread Cert.RefOutIdeal.nD Cert.RefOutIdeal.τ).loc Cert.RefOutIdeal.main_arg1) = m ((c.tc : Thread Cert.OutProjIdeal.nD Cert.OutProjIdeal.τ).loc Cert.OutProjIdeal.main_arg1)
      ∧ m' ((c.tc : Thread Cert.RefOutIdeal.nD Cert.RefOutIdeal.τ).loc Cert.RefOutIdeal.main_arg2) = m ((c.tc : Thread Cert.OutProjIdeal.nD Cert.OutProjIdeal.τ).loc Cert.OutProjIdeal.main_arg2)
      ∧ m' ((c.tc : Thread Cert.RefOutIdeal.nD Cert.RefOutIdeal.τ).loc Cert.RefOutIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v5) = v0 c
          ∧ r.2.mem ((c.tc : Thread Cert.RefOutIdeal.nD Cert.RefOutIdeal.τ).loc Cert.RefOutIdeal.main_v22) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_FinalNorm_FinalNormIdeal : Prop :=
  True

def algebraic_FinalNormIdeal_RefFinalIdeal [hFinalNormIdeal : Cert.FinalNormIdeal.Facts] [hRefFinalIdeal : Cert.RefFinalIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalNormIdeal m →
    (∀ c : Dev Cert.FinalNormIdeal.nD,
      m' ((c.tc : Thread Cert.RefFinalIdeal.nD Cert.RefFinalIdeal.τ).loc Cert.RefFinalIdeal.main_arg0) = m ((c.tc : Thread Cert.FinalNormIdeal.nD Cert.FinalNormIdeal.τ).loc Cert.FinalNormIdeal.main_arg0)
      ∧ m' ((c.tc : Thread Cert.RefFinalIdeal.nD Cert.RefFinalIdeal.τ).loc Cert.RefFinalIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v13) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1))

def Claim : Prop :=
  ∃ (hFfnNorm : Cert.FfnNorm.Facts) (hFfnNormIdeal : Cert.FfnNormIdeal.Facts) (hRefNormIdeal : Cert.RefNormIdeal.Facts) (hFfnUp : Cert.FfnUp.Facts) (hFfnUpIdeal : Cert.FfnUpIdeal.Facts) (hRefUpIdeal : Cert.RefUpIdeal.Facts) (hFfnDown : Cert.FfnDown.Facts) (hFfnDownIdeal : Cert.FfnDownIdeal.Facts) (hRefDownIdeal : Cert.RefDownIdeal.Facts) (hInProj : Cert.InProj.Facts) (hInProjIdeal : Cert.InProjIdeal.Facts) (hRefInIdeal : Cert.RefInIdeal.Facts) (hMerge : Cert.Merge.Facts) (hMergeIdeal : Cert.MergeIdeal.Facts) (hRefMergeIdeal : Cert.RefMergeIdeal.Facts) (hOutProj : Cert.OutProj.Facts) (hOutProjIdeal : Cert.OutProjIdeal.Facts) (hRefOutIdeal : Cert.RefOutIdeal.Facts) (hFinalNorm : Cert.FinalNorm.Facts) (hFinalNormIdeal : Cert.FinalNormIdeal.Facts) (hRefFinalIdeal : Cert.RefFinalIdeal.Facts),
    quiescent_FfnNorm (hFfnNorm := hFfnNorm)
    ∧ quiescent_FfnNormIdeal (hFfnNormIdeal := hFfnNormIdeal)
    ∧ quiescent_RefNormIdeal (hRefNormIdeal := hRefNormIdeal)
    ∧ quiescent_FfnUp (hFfnUp := hFfnUp)
    ∧ quiescent_FfnUpIdeal (hFfnUpIdeal := hFfnUpIdeal)
    ∧ quiescent_RefUpIdeal (hRefUpIdeal := hRefUpIdeal)
    ∧ quiescent_FfnDown (hFfnDown := hFfnDown)
    ∧ quiescent_FfnDownIdeal (hFfnDownIdeal := hFfnDownIdeal)
    ∧ quiescent_RefDownIdeal (hRefDownIdeal := hRefDownIdeal)
    ∧ quiescent_InProj (hInProj := hInProj)
    ∧ quiescent_InProjIdeal (hInProjIdeal := hInProjIdeal)
    ∧ quiescent_RefInIdeal (hRefInIdeal := hRefInIdeal)
    ∧ quiescent_Merge (hMerge := hMerge)
    ∧ quiescent_MergeIdeal (hMergeIdeal := hMergeIdeal)
    ∧ quiescent_RefMergeIdeal (hRefMergeIdeal := hRefMergeIdeal)
    ∧ quiescent_OutProj (hOutProj := hOutProj)
    ∧ quiescent_OutProjIdeal (hOutProjIdeal := hOutProjIdeal)
    ∧ quiescent_RefOutIdeal (hRefOutIdeal := hRefOutIdeal)
    ∧ quiescent_FinalNorm (hFinalNorm := hFinalNorm)
    ∧ quiescent_FinalNormIdeal (hFinalNormIdeal := hFinalNormIdeal)
    ∧ quiescent_RefFinalIdeal (hRefFinalIdeal := hRefFinalIdeal)
    ∧ preserves_FfnNorm_FfnNormIdeal
    ∧ algebraic_FfnNormIdeal_RefNormIdeal (hFfnNormIdeal := hFfnNormIdeal) (hRefNormIdeal := hRefNormIdeal)
    ∧ preserves_FfnUp_FfnUpIdeal
    ∧ algebraic_FfnUpIdeal_RefUpIdeal (hFfnUpIdeal := hFfnUpIdeal) (hRefUpIdeal := hRefUpIdeal)
    ∧ preserves_FfnDown_FfnDownIdeal
    ∧ algebraic_FfnDownIdeal_RefDownIdeal (hFfnDownIdeal := hFfnDownIdeal) (hRefDownIdeal := hRefDownIdeal)
    ∧ preserves_InProj_InProjIdeal
    ∧ algebraic_InProjIdeal_RefInIdeal (hInProjIdeal := hInProjIdeal) (hRefInIdeal := hRefInIdeal)
    ∧ preserves_Merge_MergeIdeal
    ∧ algebraic_MergeIdeal_RefMergeIdeal (hMergeIdeal := hMergeIdeal) (hRefMergeIdeal := hRefMergeIdeal)
    ∧ preserves_OutProj_OutProjIdeal
    ∧ algebraic_OutProjIdeal_RefOutIdeal (hOutProjIdeal := hOutProjIdeal) (hRefOutIdeal := hRefOutIdeal)
    ∧ preserves_FinalNorm_FinalNormIdeal
    ∧ algebraic_FinalNormIdeal_RefFinalIdeal (hFinalNormIdeal := hFinalNormIdeal) (hRefFinalIdeal := hRefFinalIdeal)
-- ==== FfnNorm.lean ====
abbrev S4x2048x2048 : Shape := ⟨3, ![4, 2048, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S4x2048x2048 : Shape := ⟨3, ![4, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | .hbm, ⟨21, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== FfnUp.lean ====
abbrev S4x2048x2048 : Shape := ⟨3, ![4, 2048, 2048]⟩
abbrev S2x2048x5632 : Shape := ⟨3, ![2, 2048, 5632]⟩
abbrev S8192x2048 : Shape := ⟨2, ![8192, 2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S8192x2048, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefUpIdeal.lean ====
abbrev S4x2048x2048 : Shape := ⟨3, ![4, 2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4x2048x5632 : Shape := ⟨3, ![4, 2048, 5632]⟩
abbrev S_ : Shape := ⟨0, ![]⟩
abbrev S8192x5632 : Shape := ⟨2, ![8192, 5632]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S4x2048x5632, .f32⟩
  | .hbm, ⟨6, _⟩ => ⟨S4x2048x5632, .f32⟩
  | .hbm, ⟨7, _⟩ => ⟨S4x2048x5632, .f32⟩
  | .hbm, ⟨8, _⟩ => ⟨S_, .f32⟩
  | .hbm, ⟨9, _⟩ => ⟨S4x2048x5632, .f32⟩
  | .hbm, ⟨10, _⟩ => ⟨S4x2048x5632, .f32⟩
  | .hbm, ⟨11, _⟩ => ⟨S_, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S1x2048x5632, .f32⟩
  | .hbm, ⟨16, _⟩ => ⟨S2048x5632, .f32⟩
  | .hbm, ⟨17, _⟩ => ⟨S4x2048x5632, .f32⟩
  | .hbm, ⟨18, _⟩ => ⟨S4x2048x5632, .f32⟩
  | .hbm, ⟨19, _⟩ => ⟨S8192x5632, .f32⟩
  | .hbm, ⟨20, _⟩ => ⟨S8192x5632, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S8192x5632 : Shape := ⟨2, ![8192, 5632]⟩
abbrev S2x5632x2048 : Shape := ⟨3, ![2, 5632, 2048]⟩
abbrev S4x2048x2048 : Shape := ⟨3, ![4, 2048, 2048]⟩
abbrev S1x5632x2048 : Shape := ⟨3, ![1, 5632, 2048]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S4x2048x2048, .f32⟩
  | .hbm, ⟨3, _⟩ => ⟨S1x5632x2048, .f32⟩
  | .hbm, ⟨4, _⟩ => ⟨S5632x2048, .f32⟩
  | .hbm, ⟨5, _⟩ => ⟨S5632x2048, .bf16⟩
  | .hbm, ⟨6, _⟩ => ⟨S8192x2048, .f32⟩
  | .hbm, ⟨7, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefDownIdeal.lean ====
abbrev S8192x5632 : Shape := ⟨2, ![8192, 5632]⟩
abbrev S2x5632x2048 : Shape := ⟨3, ![2, 5632, 2048]⟩
abbrev S4x2048x2048 : Shape := ⟨3, ![4, 2048, 2048]⟩
abbrev S4x2048x5632 : Shape := ⟨3, ![4, 2048, 5632]⟩
abbrev S1x5632x2048 : Shape := ⟨3, ![1, 5632, 2048]⟩
abbrev S5632x2048 : Shape := ⟨2, ![5632, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S4x2048x2048, .f32⟩
  | .hbm, ⟨3, _⟩ => ⟨S8192x5632, .f32⟩
  | .hbm, ⟨4, _⟩ => ⟨S4x2048x5632, .f32⟩
  | .hbm, ⟨5, _⟩ => ⟨S1x5632x2048, .f32⟩
  | .hbm, ⟨6, _⟩ => ⟨S5632x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InProj.lean ====
abbrev S4x2048x2048 : Shape := ⟨3, ![4, 2048, 2048]⟩
abbrev S2x2048 : Shape := ⟨2, ![2, 2048]⟩
abbrev S2x2048x10834 : Shape := ⟨3, ![2, 2048, 10834]⟩
abbrev S8192x2048 : Shape := ⟨2, ![8192, 2048]⟩
abbrev S1x2048 : Shape := ⟨2, ![1, 2048]⟩
abbrev S2048 : Shape := ⟨1, ![2048]⟩
abbrev S2x10834x2048 : Shape := ⟨3, ![2, 10834, 2048]⟩
abbrev S2x1536x2048 : Shape := ⟨3, ![2, 1536, 2048]⟩
abbrev S2x512x2048 : Shape := ⟨3, ![2, 512, 2048]⟩
abbrev S2x256x2048 : Shape := ⟨3, ![2, 256, 2048]⟩
abbrev S2x64x2048 : Shape := ⟨3, ![2, 64, 2048]⟩
abbrev S2x2304x2048 : Shape := ⟨3, ![2, 2304, 2048]⟩
abbrev S2x9x2048 : Shape := ⟨3, ![2, 9, 2048]⟩
abbrev S2x6144x2048 : Shape := ⟨3, ![2, 6144, 2048]⟩
abbrev S2x768x2048 : Shape := ⟨3, ![2, 768, 2048]⟩
abbrev S_ : Shape := ⟨0, ![]⟩
abbrev S2x119x2048 : Shape := ⟨3, ![2, 119, 2048]⟩
abbrev S2x192x2048 : Shape := ⟨3, ![2, 192, 2048]⟩
abbrev S2x11264x2048 : Shape := ⟨3, ![2, 11264, 2048]⟩
abbrev S8192x5120 : Shape := ⟨2, ![8192, 5120]⟩
abbrev S8192x6144 : Shape := ⟨2, ![8192, 6144]⟩
abbrev S1024x2048 : Shape := ⟨2, ![1024, 2048]⟩
abbrev S1x1024x2048 : Shape := ⟨3, ![1, 1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 28
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x10834, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2x10834x2048, .f32⟩
  | .hbm, ⟨7, _⟩ => ⟨S2x1536x2048, .f32⟩
  | .hbm, ⟨8, _⟩ => ⟨S2x512x2048, .f32⟩
  | .hbm, ⟨9, _⟩ => ⟨S2x256x2048, .f32⟩
  | .hbm, ⟨10, _⟩ => ⟨S2x64x2048, .f32⟩
  | .hbm, ⟨11, _⟩ => ⟨S2x2304x2048, .f32⟩
  | .hbm, ⟨12, _⟩ => ⟨S2x9x2048, .f32⟩
  | .hbm, ⟨13, _⟩ => ⟨S2x9x2048, .f32⟩
  | .hbm, ⟨14, _⟩ => ⟨S2x6144x2048, .f32⟩
  | .hbm, ⟨15, _⟩ => ⟨S2x768x2048, .f32⟩
  | .hbm, ⟨16, _⟩ => ⟨S2x1536x2048, .f32⟩
  | .hbm, ⟨17, _⟩ => ⟨S_, .f32⟩
  | .hbm, ⟨18, _⟩ => ⟨S2x119x2048, .f32⟩
  | .hbm, ⟨19, _⟩ => ⟨S_, .f32⟩
  | .hbm, ⟨20, _⟩ => ⟨S2x119x2048, .f32⟩
  | .hbm, ⟨21, _⟩ => ⟨S_, .f32⟩
  | .hbm, ⟨22, _⟩ => ⟨S2x192x2048, .f32⟩
  | .hbm, ⟨23, _⟩ => ⟨S2x11264x2048, .f32⟩
  | .hbm, ⟨24, _⟩ => ⟨S2x11264x2048, .bf16⟩
  | .hbm, ⟨25, _⟩ => ⟨S1x2048, .f32⟩
  | .hbm, ⟨26, _⟩ => ⟨S8192x5120, .f32⟩
  | .hbm, ⟨27, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c5_i32_2 : BitVec 32 := 5#32
  let v6 : BitVec 1 := Scalar.cmpi .sge arg1 c5_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefInIdeal.lean ====
abbrev S4x2048x2048 : Shape := ⟨3, ![4, 2048, 2048]⟩
abbrev S2x2048 : Shape := ⟨2, ![2, 2048]⟩
abbrev S2x2048x10834 : Shape := ⟨3, ![2, 2048, 10834]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x10834 : Shape := ⟨3, ![1, 2048, 10834]⟩
abbrev S2048x10834 : Shape := ⟨2, ![2048, 10834]⟩
abbrev S4x2048x10834 : Shape := ⟨3, ![4, 2048, 10834]⟩
abbrev S4x2048x512 : Shape := ⟨3, ![4, 2048, 512]⟩
abbrev S4x2048x256 : Shape := ⟨3, ![4, 2048, 256]⟩
abbrev S4x2048x64 : Shape := ⟨3, ![4, 2048, 64]⟩
abbrev S4x2048x768 : Shape := ⟨3, ![4, 2048, 768]⟩
abbrev S4x2048x18 : Shape := ⟨3, ![4, 2048, 18]⟩
abbrev S4x2048x6144 : Shape := ⟨3, ![4, 2048, 6144]⟩
abbrev S4x2048x9 : Shape := ⟨3, ![4, 2048, 9]⟩
abbrev S4x2048x119 : Shape := ⟨3, ![4, 2048, 119]⟩
abbrev S4x2048x192 : Shape := ⟨3, ![4, 2048, 192]⟩
abbrev S4x2048x4864 : Shape := ⟨3, ![4, 2048, 4864]⟩
abbrev S4x2048x5120 : Shape := ⟨3, ![4, 2048, 5120]⟩
abbrev S8192x5120 : Shape := ⟨2, ![8192, 5120]⟩
abbrev S8192x6144 : Shape := ⟨2, ![8192, 6144]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x10834, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S1x2048x10834, .f32⟩
  | .hbm, ⟨22, _⟩ => ⟨S2048x10834, .f32⟩
  | .hbm, ⟨23, _⟩ => ⟨S4x2048x10834, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S4x2048x256, .f32⟩
  | .hbm, ⟨29, _⟩ => ⟨S4x2048x64, .f32⟩
  | .hbm, ⟨30, _⟩ => ⟨S4x2048x768, .f32⟩
  | .hbm, ⟨31, _⟩ => ⟨S4x2048x256, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S4x2048x18, .f32⟩
  | .hbm, ⟨38, _⟩ => ⟨S4x2048x6144, .f32⟩
  | .hbm, ⟨39, _⟩ => ⟨S4x2048x9, .f32⟩
  | .hbm, ⟨40, _⟩ => ⟨S_, .f32⟩
  | .hbm, ⟨41, _⟩ => ⟨S4x2048x119, .f32⟩
  | .hbm, ⟨42, _⟩ => ⟨S4x2048x9, .f32⟩
  | .hbm, ⟨43, _⟩ => ⟨S_, .f32⟩
  | .hbm, ⟨44, _⟩ => ⟨S4x2048x119, .f32⟩
  | .hbm, ⟨45, _⟩ => ⟨S_, .f32⟩
  | .hbm, ⟨46, _⟩ => ⟨S4x2048x192, .f32⟩
  | .hbm, ⟨47, _⟩ => ⟨S4x2048x4864, .f32⟩
  | .hbm, ⟨48, _⟩ => ⟨S4x2048x256, .f32⟩
  | .hbm, ⟨49, _⟩ => ⟨S4x2048x5120, .f32⟩
  | .hbm, ⟨50, _⟩ => ⟨S8192x5120, .f32⟩
  | .hbm, ⟨51, _⟩ => ⟨S4x2048x6144, .f32⟩
  | .hbm, ⟨52, _⟩ => ⟨S4x2048x6144, .f32⟩
  | .hbm, ⟨53, _⟩ => ⟨S_, .f32⟩
  | .hbm, ⟨54, _⟩ => ⟨S4x2048x6144, .f32⟩
  | .hbm, ⟨55, _⟩ => ⟨S4x2048x6144, .f32⟩
  | .hbm, ⟨56, _⟩ => ⟨S_, .f32⟩
  | .hbm, ⟨57, _⟩ => ⟨S4x2048x6144, .f32⟩
  | .hbm, ⟨58, _⟩ => ⟨S4x2048x6144, .f32⟩
  | .hbm, ⟨59, _⟩ => ⟨S8192x6144, .f32⟩
  | .hbm, ⟨60, _⟩ => ⟨S8192x6144, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Merge.lean ====
abbrev S4x2048x512 : Shape := ⟨3, ![4, 2048, 512]⟩
abbrev S4x2048x768 : Shape := ⟨3, ![4, 2048, 768]⟩
abbrev S4x2048x6144 : Shape := ⟨3, ![4, 2048, 6144]⟩
abbrev S2x512x2048 : Shape := ⟨3, ![2, 512, 2048]⟩
abbrev S2x768x2048 : Shape := ⟨3, ![2, 768, 2048]⟩
abbrev S8192x512 : Shape := ⟨2, ![8192, 512]⟩
abbrev S8192x768 : Shape := ⟨2, ![8192, 768]⟩
abbrev S8192x6144 : Shape := ⟨2, ![8192, 6144]⟩
abbrev S8192x2048 : Shape := ⟨2, ![8192, 2048]⟩
abbrev S1024x512 : Shape := ⟨2, ![1024, 512]⟩
abbrev S1024x768 : Shape := ⟨2, ![1024, 768]⟩
abbrev S1024x1024 : Shape := ⟨2, ![1024, 1024]⟩
abbrev S1x512x1024 : Shape := ⟨3, ![1, 512, 1024]⟩
abbrev S1x768x1024 : Shape := ⟨3, ![1, 768, 1024]⟩
abbrev S512x1024 : Shape := ⟨2, ![512, 1024]⟩
abbrev S768x1024 : Shape := ⟨2, ![768, 1024]⟩

abbrev nBuf : Space → Nat
  | .hbm => 12
  | .vmem => 23
  | .smem => 0
  | _ => 0

abbrev bufTy : (tb : Table) → Fin (tcTables nBuf tb) → BufTy
  | .hbm, ⟨0, _⟩ => ⟨S4x2048x512, .bf16⟩
  | .hbm, ⟨1, _⟩ => ⟨S4x2048x768, .bf16⟩
  | .hbm, ⟨2, _⟩ => ⟨S4x2048x768, .bf16⟩
  | .hbm, ⟨3, _⟩ => ⟨S4x2048x6144, .bf16⟩
  | .hbm, ⟨4, _⟩ => ⟨S2x512x2048, .f32⟩
  | .hbm, ⟨5, _⟩ => ⟨S2x768x2048, .f32⟩
  | .hbm, ⟨6, _⟩ => ⟨S2x768x2048, .f32⟩
  | .hbm, ⟨7, _⟩ => ⟨S8192x512, .bf16⟩
  | .hbm, ⟨8, _⟩ => ⟨S8192x768, .bf16⟩
  | .hbm, ⟨9, _⟩ => ⟨S8192x768, .bf16⟩
  | .hbm, ⟨10, _⟩ => ⟨S8192x6144, .bf16⟩
  | .hbm, ⟨11, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x768x1024, .f32⟩
  | .local _ .vmem, ⟨15, _⟩ => ⟨S1x768x1024, .f32⟩
  | .local _ .vmem, ⟨16, _⟩ => ⟨S1x768x1024, .f32⟩
  | .local _ .vmem, ⟨17, _⟩ => ⟨S1x768x1024, .f32⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S768x1024, .bf16⟩
  | .local _ .vmem, ⟨22, _⟩ => ⟨S768x1024, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMergeIdeal.lean ====
abbrev S4x2048x512 : Shape := ⟨3, ![4, 2048, 512]⟩
abbrev S4x2048x768 : Shape := ⟨3, ![4, 2048, 768]⟩
abbrev S4x2048x6144 : Shape := ⟨3, ![4, 2048, 6144]⟩
abbrev S2x512x2048 : Shape := ⟨3, ![2, 512, 2048]⟩
abbrev S2x768x2048 : Shape := ⟨3, ![2, 768, 2048]⟩
abbrev S4x2048x3x2048 : Shape := ⟨4, ![4, 2048, 3, 2048]⟩
abbrev S4x2048x1x2048 : Shape := ⟨4, ![4, 2048, 1, 2048]⟩
abbrev S4x2048x2048 : Shape := ⟨3, ![4, 2048, 2048]⟩
abbrev S1x512x2048 : Shape := ⟨3, ![1, 512, 2048]⟩
abbrev S512x2048 : Shape := ⟨2, ![512, 2048]⟩
abbrev S1x768x2048 : Shape := ⟨3, ![1, 768, 2048]⟩
abbrev S768x2048 : Shape := ⟨2, ![768, 2048]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x768, .bf16⟩
  | .hbm, ⟨2, _⟩ => ⟨S4x2048x768, .bf16⟩
  | .hbm, ⟨3, _⟩ => ⟨S4x2048x6144, .bf16⟩
  | .hbm, ⟨4, _⟩ => ⟨S2x512x2048, .f32⟩
  | .hbm, ⟨5, _⟩ => ⟨S2x768x2048, .f32⟩
  | .hbm, ⟨6, _⟩ => ⟨S2x768x2048, .f32⟩
  | .hbm, ⟨7, _⟩ => ⟨S4x2048x512, .f32⟩
  | .hbm, ⟨8, _⟩ => ⟨S4x2048x768, .f32⟩
  | .hbm, ⟨9, _⟩ => ⟨S4x2048x768, .f32⟩
  | .hbm, ⟨10, _⟩ => ⟨S4x2048x6144, .f32⟩
  | .hbm, ⟨11, _⟩ => ⟨S4x2048x3x2048, .f32⟩
  | .hbm, ⟨12, _⟩ => ⟨S4x2048x1x2048, .f32⟩
  | .hbm, ⟨13, _⟩ => ⟨S4x2048x2048, .f32⟩
  | .hbm, ⟨14, _⟩ => ⟨S1x512x2048, .f32⟩
  | .hbm, ⟨15, _⟩ => ⟨S512x2048, .f32⟩
  | .hbm, ⟨16, _⟩ => ⟨S4x2048x2048, .f32⟩
  | .hbm, ⟨17, _⟩ => ⟨S4x2048x2048, .f32⟩
  | .hbm, ⟨18, _⟩ => ⟨S4x2048x1x2048, .f32⟩
  | .hbm, ⟨19, _⟩ => ⟨S4x2048x2048, .f32⟩
  | .hbm, ⟨20, _⟩ => ⟨S1x768x2048, .f32⟩
  | .hbm, ⟨21, _⟩ => ⟨S768x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x1x2048, .f32⟩
  | .hbm, ⟨26, _⟩ => ⟨S4x2048x2048, .f32⟩
  | .hbm, ⟨27, _⟩ => ⟨S1x768x2048, .f32⟩
  | .hbm, ⟨28, _⟩ => ⟨S768x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | .hbm, ⟨33, _⟩ => ⟨S8192x2048, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== OutProj.lean ====
abbrev S4x2048x2048 : Shape := ⟨3, ![4, 2048, 2048]⟩
abbrev S2x2048x2048 : Shape := ⟨3, ![2, 2048, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x2048, .f32⟩
  | .hbm, ⟨2, _⟩ => ⟨S4x2048x2048, .f32⟩
  | .hbm, ⟨3, _⟩ => ⟨S2x2048, .f32⟩
  | .hbm, ⟨4, _⟩ => ⟨S8192x2048, .bf16⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefOutIdeal.lean ====
abbrev S4x2048x2048 : Shape := ⟨3, ![4, 2048, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x2048, .f32⟩
  | .hbm, ⟨2, _⟩ => ⟨S4x2048x2048, .f32⟩
  | .hbm, ⟨3, _⟩ => ⟨S2x2048, .f32⟩
  | .hbm, ⟨4, _⟩ => ⟨S4x2048x2048, .f32⟩
  | .hbm, ⟨5, _⟩ => ⟨S1x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S8192x2048, .f32⟩
  | .hbm, ⟨29, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== FinalNorm.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefFinalIdeal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.NormValue.lean ====
module

public import proofs.«01_k».proof.Proof.Gen.FfnNormIdeal.Value
public import proofs.«01_k».proof.Defs
public import proofs.«01_k».proof.Proof.Gen.RefNormIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.FfnNormIdeal.RefValue

open Cert.FfnNormIdeal Cert.FfnNormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the reference computes, as one function of the two arguments. -/
def res (x : FVec Ideal S4x2048x2048 .f32) (g : FVec Ideal S2x2048 .f32) : FVec Ideal S8192x2048 .bf16 :=
  truncf (F := Ideal) .bf16 (shapeCast _ (mulf (mulf x (broadcastInDim Cert.RefNormIdeal.S4x2048x2048 ![0, 1, 2] Cert.RefNormIdeal.Gen.bcast_S4x2048x1_S4x2048x2048_0_1_2 (Host.rsqrt (addf (Host.divf (broadcastInDim Cert.RefNormIdeal.S4x2048x1 ![0, 1] Cert.RefNormIdeal.Gen.bcast_S4x2048_S4x2048x1_0_1 (Host.reduceAdd (mulf x x) (constant (F := Ideal) Cert.RefNormIdeal.S_ .f32 0x00000000#32) Cert.RefNormIdeal.Gen.reducesTo_S4x2048x2048_S4x2048_d2 Cert.RefNormIdeal.Gen.h_S_)) (broadcastInDim Cert.RefNormIdeal.S4x2048x1 ![] Cert.RefNormIdeal.Gen.bcast_S_S4x2048x1 (constant (F := Ideal) Cert.RefNormIdeal.S_ .f32 0x45000000#32))) (broadcastInDim Cert.RefNormIdeal.S4x2048x1 ![] Cert.RefNormIdeal.Gen.bcast_S_S4x2048x1 (constant (F := Ideal) Cert.RefNormIdeal.S_ .f32 0x358637BD#32)))))) (broadcastInDim Cert.RefNormIdeal.S4x2048x2048 ![0, 1, 2] Cert.RefNormIdeal.Gen.bcast_S1x1x2048_S4x2048x2048_0_1_2 (broadcastInDim Cert.RefNormIdeal.S1x1x2048 ![2] Cert.RefNormIdeal.Gen.bcast_S2048_S1x1x2048_2 (shapeCast _ (extractStridedSlice Cert.RefNormIdeal.S1x2048 ![0, 0] g Cert.RefNormIdeal.Gen.slices_S2x2048_S1x2048_0_0) Cert.RefNormIdeal.Gen.shapeCasts_S1x2048_S2048)))) Cert.RefNormIdeal.Gen.shapeCasts_S4x2048x2048_S8192x2048) Cert.RefNormIdeal.Gen.bitsLt_bf16_f32

theorem rows_entry (c : Dev nD) : V (F := Ideal) m c main_v0 = shapeCast S8192x2048 (m ((c.tc : Thread nD τ).loc main_arg0)) shapeCasts_S4x2048x2048_S8192x2048 := by
  unfold V hostOps0
  after_results <;> rfl

theorem gain_entry (c : Dev nD) : V (F := Ideal) m c main_v3 = shapeCast S1x2048 (shapeCast S2048 (extractStridedSlice S1x2048 ![0, 0] (m ((c.tc : Thread nD τ).loc main_arg1)) slices_S2x2048_S1x2048_0_0) shapeCasts_S1x2048_S2048) shapeCasts_S2048_S1x2048 := by
  unfold V hostOps0
  after_results <;> rfl

/-- The block indices at a grid point. -/
theorem idx_facts : ∀ t : Fin cfg0.N, win0_2.index t = ![(grid0.coords t 0).val, 0] ∧ win0_0.index t = ![(grid0.coords t 0).val, 0] ∧ win0_1.index t = ![0, 0] :=
  (by decide +kernel : ∀ t : Fin grid0.N, _)

theorem hi (t : Fin cfg0.N) : (grid0.coords t 0).val < 8 := (grid0.coords t 0).isLt

/-- One row scaled by the reciprocal root of its mean square. -/
def norm (x : Fin 2048 → EReal) (g : EReal) (q : Fin 2048) : EReal :=
  x q * Ideal.rsqrt (Ideal.div (∑ k : Fin 2048, x k * x k) (Ideal.ofBits FTy.f32 0x45000000#32) + Ideal.ofBits FTy.f32 0x358637BD#32) * g

theorem res_apply (x : FVec Ideal S4x2048x2048 .f32) (g : FVec Ideal S2x2048 .f32) (r : Fin 8192) (q : Fin 2048) :
    res x g (ix2 r q) = norm (fun k => shapeCast S8192x2048 x shapeCasts_S4x2048x2048_S8192x2048 (ix2 r k)) (g (ix2 0 q)) q := by
  unfold res norm
  pointwise

theorem pay_apply (x : Vec Ideal S1024x2048 .f32) (g : Vec Ideal S1x2048 .f32) (r : Fin 1024) (q : Fin 2048) :
    k0_pay1 x g (ix2 r q) = norm (fun k => x (ix2 r k)) (g (ix2 0 q)) q := by
  unfold norm
  pointwise [k0_pay1]

theorem blk0 (c : Dev nD) (t : Fin cfg0.N) (r : Fin 1024) (k : Fin 2048) :
    iblk m c 0 t (ix2 r k) = shapeCast S8192x2048 (m ((c.tc : Thread nD τ).loc main_arg0)) shapeCasts_S4x2048x2048_S8192x2048 (ix2 (⟨(grid0.coords t 0).val * 1024 + r.val, by have := hi t; omega⟩ : Fin 8192) k) := by
  obtain ⟨e2, e0, e1⟩ := idx_facts t
  have h : ((cfg0.win 0).blk t).view.emb (ix2 r k) = ix2 (⟨(grid0.coords t 0).val * 1024 + r.val, by have := hi t; omega⟩ : Fin 8192) k := by
    blk_ext [e0]
  show V m c main_v0 (((cfg0.win 0).blk t).view.emb (ix2 r k)) = _
  rw [h, rows_entry]

theorem blk1 (c : Dev nD) (t : Fin cfg0.N) (q : Fin 2048) :
    iblk m c 1 t (ix2 0 q) = m ((c.tc : Thread nD τ).loc main_arg1) (ix2 0 q) := by
  obtain ⟨e2, e0, e1⟩ := idx_facts t
  have h : ((cfg0.win 1).blk t).view.emb (ix2 0 q) = ix2 (0 : Fin 1) q := by
    blk_ext [e1]
  show V m c main_v3 (((cfg0.win 1).blk t).view.emb (ix2 0 q)) = _
  rw [h, gain_entry]
  pointwise

/-- The result array as the reference's function of the arguments. -/
def result (c : Dev nD) : Buf (Elt Ideal) ((c.tc : Thread nD τ).loc main_v4) := res (m ((c.tc : Thread nD τ).loc main_arg0)) (m ((c.tc : Thread nD τ).loc main_arg1))

theorem covers : (cfg0.win 2).Covers := by decide +kernel

theorem after_apply (c : Dev nD) (t : Fin cfg0.N) (r : Fin 1024) (q : Fin 2048) : (dats m 0 c).after 2 t (ix2 r q) = k0_pay1 (iblk m c 0 t) (iblk m c 1 t) (ix2 r q) := by
  rw [after0_2]; frame_out

theorem point (c : Dev nD) (t : Fin cfg0.N) (y : ((cfg0.win 2).xblock (cfg0.grid.coords t)).Idx) : (dats m 0 c).after 2 t y = result m c (((cfg0.win 2).blk t).view.emb y) := by
  obtain ⟨r, q, rfl⟩ : ∃ (r : Fin 1024) (q : Fin 2048), y = ix2 r q := ⟨y 0, y 1, eq_ix2 y⟩
  obtain ⟨e2, e0, e1⟩ := idx_facts t
  have h : ((cfg0.win 2).blk t).view.emb (ix2 r q) = ix2 (⟨(grid0.coords t 0).val * 1024 + r.val, by have := hi t; omega⟩ : Fin 8192) q := by
    blk_ext [e2]
  rw [h]
  refine (after_apply m c t r q).trans ?_
  unfold result
  rw [res_apply, pay_apply, blk1]
  simp only [blk0]

/-- What the region leaves in the result array is the reference's function of the arguments. -/
theorem final (c : Dev nD) : (dats m 0 c).arrAt 2 cfg0.N = result m c :=
  (dats m 0 c).arrAt_eq_of_covers 2 _ covers fun t hf y => point m c t y

theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Value.run_blocks m ρ)

end Cert.FfnNormIdeal.RefValue

open Idealize.ShloMosaic Idealize.ShloMosaic.TcCoe Idealize.SL.Sem in
/-- The normalisation before the feed-forward and its reference leave equal results. -/
theorem Cert.Proof.norm_algebraic : Cert.algebraic_FfnNormIdeal_RefNormIdeal := by
  intro m g m' g' _ hag
  refine ⟨Cert.FfnNormIdeal.RefValue.result m, Cert.FfnNormIdeal.RefValue.run m g, ?_⟩
  refine (θ_run _ _ _).mono (fun r h c => ?_) (Cert.RefNormIdeal.Value.run m' g')
  obtain ⟨h0, h1, h2⟩ := h c
  obtain ⟨a0, a1⟩ := hag c
  refine ⟨?_, h1, h2⟩
  · rw [h0, a0, a1]
    rfl

end
-- ==== Proof.UpValue.lean ====
module

public import proofs.«01_k».proof.Proof.Gen.FfnUpIdeal.Value
public import proofs.«01_k».proof.Defs
public import proofs.«01_k».proof.Proof.Gen.RefUpIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.FfnUpIdeal.RefValue

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ofBits_half : Ideal.ofBits .f32 0x3F000000#32 = ((1 / 2 : ℝ) : EReal) := by
  simp [Ideal.ofBits, Ideal.ieee, -EReal.coe_mul]; norm_num

/-- The half-angle form of the logistic function: one half of the hyperbolic tangent of half the argument, plus one half. -/
theorem tanh_real (r : ℝ) : (1 / 2) * Real.tanh ((1 / 2) * r) + 1 / 2 = (1 + Real.exp (-r))⁻¹ := by
  have e : Real.exp (-r) = Real.exp (-((1 / 2) * r)) * Real.exp (-((1 / 2) * r)) := by rw [← Real.exp_add]; congr 1; ring
  have h := Real.exp_pos ((1 / 2) * r)
  have h' := Real.exp_pos (-((1 / 2) * r))
  have hm : Real.exp ((1 / 2) * r) * Real.exp (-((1 / 2) * r)) = 1 := by rw [← Real.exp_add]; simp
  rw [Real.tanh_eq_sinh_div_cosh, Real.sinh_eq, Real.cosh_eq, e]
  generalize Real.exp ((1 / 2) * r) = a at *
  generalize Real.exp (-((1 / 2) * r)) = b at *
  have h1 : a + b ≠ 0 := by positivity
  have h2 : 1 + b * b ≠ 0 := by positivity
  field_simp
  linear_combination (2 * b) * hm

/-- At the extended reals the kernel's form of the logistic function is the reference's. -/
theorem sigmoid (x : EReal) : ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.logistic_bot]
    show ((1 / 2 : ℝ) : EReal) * ((-1 : EReal)) + _ = 0
    rw [show (-1 : EReal) = ((-1 : ℝ) : EReal) by rw [EReal.coe_neg, EReal.coe_one], ← EReal.coe_mul, ← EReal.coe_add]; norm_num
  | top =>
    rw [EReal.coe_mul_top_of_pos (by norm_num), Ideal.logistic_top]
    show ((1 / 2 : ℝ) : EReal) * ((1 : EReal)) + _ = 1
    rw [show (1 : EReal) = ((1 : ℝ) : EReal) by norm_cast, ← EReal.coe_mul, ← EReal.coe_add]; norm_num
  | coe r =>
    rw [Ideal.logistic_coe, ← EReal.coe_mul]
    show ((1 / 2 : ℝ) : EReal) * ((Real.tanh _ : ℝ) : EReal) + _ = _
    rw [← EReal.coe_mul, ← EReal.coe_add, tanh_real]

/-! ## What one grid point leaves -/

theorem hz : (![0, 0] : Fin 2 → Nat) = fun _ => 0 := funext fun a => by fin_cases a <;> rfl
theorem hz3 : (![0, 0, 0] : Fin 3 → Nat) = fun _ => 0 := funext fun a => by fin_cases a <;> rfl

theorem out_B (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole) (arg7 : Memref sig .tc .vmem S2048x512 .bf16) (harg7 : arg7.IsWhole) (hc0 : ¬cond0_0 i)
    (x0 : Vec Ideal S1024x2048 .bf16) (x1 : Vec Ideal S1x2048x512 .f32) (x2 : Vec Ideal S1x2048x512 .f32) (xs0 : Vec Ideal S2048x512 .bf16) (xs1 : Vec Ideal S2048x512 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz]
  simp only [View.readAt_eq_ld, harg2.read_unread, harg6.read_unread, harg7.read_unread, View.ld_unit_zero (S := S1024x2048) hz, View.ld_unit_zero (S := S2048x512) hz]

theorem sout_A0 (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S1024x2048 .bf16) (x1 : Vec Ideal S1x2048x512 .f32) (x2 : Vec Ideal S1x2048x512 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg3.read_unread, View.ld_unit_zero (S := S1x2048x512) hz3]

theorem sout_A1 (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S1024x2048 .bf16) (x1 : Vec Ideal S1x2048x512 .f32) (x2 : Vec Ideal S1x2048x512 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg4.read_unread, View.ld_unit_zero (S := S1x2048x512) hz3]

theorem out_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S1024x2048 .bf16) (x1 : Vec Ideal S1x2048x512 .f32) (x2 : Vec Ideal S1x2048x512 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz, View.readCov_unit_zero (S := S2048x512) _ hz, View.readCov_unit_zero (S := S2048x512) _ hz]
  simp only [View.readAt_eq_ld, harg2.read_unread, harg3.read_unread, harg4.read_unread, View.ld_unit_zero (S := S1024x2048) hz, View.ld_unit_zero (S := S1x2048x512) hz3]

/-! ## The arrays the region finds -/

/-- The rows as the region finds them: the argument's rows in order. -/
theorem rows_entry (c : Dev nD) : V (F := Ideal) m c main_v1 = truncf (F := Ideal) .bf16 (shapeCast S8192x2048 (m ((c.tc : Thread nD τ).loc main_arg0)) shapeCasts_S4x2048x2048_S8192x2048) bitsLt_bf16_f32 := by
  unfold V hostOps0
  after_results <;> rfl

/-- The block indices at a grid point. -/
theorem idx_facts : ∀ t : Fin cfg0.N, win0_3.index t = ![(grid0.coords t 1).val, (grid0.coords t 0).val] ∧ win0_0.index t = ![(grid0.coords t 1).val, 0]
    ∧ win0_1.index t = ![0, 0, (grid0.coords t 0).val] ∧ win0_2.index t = ![0, 0, (grid0.coords t 0).val] ∧ (grid0.coords t 0).val = t.val / 8 :=
  (by decide +kernel : ∀ t : Fin grid0.N, _)

theorem hi (t : Fin cfg0.N) : (grid0.coords t 1).val < 8 := (grid0.coords t 1).isLt
theorem hn (t : Fin cfg0.N) : (grid0.coords t 0).val < 11 := (grid0.coords t 0).isLt

theorem blk0 (c : Dev nD) (t : Fin cfg0.N) (r : Fin 1024) (k : Fin 2048) :
    iblk m c 0 t (ix2 r k) = shapeCast S8192x2048 (m ((c.tc : Thread nD τ).loc main_arg0)) shapeCasts_S4x2048x2048_S8192x2048 (ix2 (⟨(grid0.coords t 1).val * 1024 + r.val, by have := hi t; omega⟩ : Fin 8192) k) := by
  obtain ⟨e3, e0, e1, e2, -⟩ := idx_facts t
  have h : ((cfg0.win 0).blk t).view.emb (ix2 r k) = ix2 (⟨(grid0.coords t 1).val * 1024 + r.val, by have := hi t; omega⟩ : Fin 8192) k := by
    blk_ext [e0]
  show V m c main_v1 (((cfg0.win 0).blk t).view.emb (ix2 r k)) = _
  rw [h, rows_entry]
  rfl

theorem blk1 (c : Dev nD) (t : Fin cfg0.N) (k : Fin 2048) (q : Fin 512) :
    iblk m c 1 t (ix3 0 k q) = m ((c.tc : Thread nD τ).loc main_arg1) (ix3 0 k ⟨t.val / 8 * 512 + q.val, by have := t.isLt; have := lt_of_lt_of_eq this (show cfg0.N = 88 from N_0); omega⟩) := by
  obtain ⟨e3, e0, e1, e2, e⟩ := idx_facts t
  rw [e] at e1
  have h : ((cfg0.win 1).blk t).view.emb (ix3 0 k q) = ix3 (0 : Fin 2) k (⟨t.val / 8 * 512 + q.val, by have := t.isLt; have := lt_of_lt_of_eq this (show cfg0.N = 88 from N_0); omega⟩ : Fin 5632) := by
    blk_ext [e1]
  show V m c main_arg1 (((cfg0.win 1).blk t).view.emb (ix3 0 k q)) = _
  rw [h, V_main_arg1]

theorem blk2 (c : Dev nD) (t : Fin cfg0.N) (k : Fin 2048) (q : Fin 512) :
    iblk m c 2 t (ix3 0 k q) = m ((c.tc : Thread nD τ).loc main_arg2) (ix3 0 k ⟨t.val / 8 * 512 + q.val, by have := t.isLt; have := lt_of_lt_of_eq this (show cfg0.N = 88 from N_0); omega⟩) := by
  obtain ⟨e3, e0, e1, e2, e⟩ := idx_facts t
  rw [e] at e2
  have h : ((cfg0.win 2).blk t).view.emb (ix3 0 k q) = ix3 (0 : Fin 2) k (⟨t.val / 8 * 512 + q.val, by have := t.isLt; have := lt_of_lt_of_eq this (show cfg0.N = 88 from N_0); omega⟩ : Fin 5632) := by
    blk_ext [e2]
  show V m c main_arg2 (((cfg0.win 2).blk t).view.emb (ix3 0 k q)) = _
  rw [h, V_main_arg2]

theorem pay1_apply (x : Vec Ideal S1x2048x512 .f32) (k : Fin 2048) (q : Fin 512) : k0_pay1 x (ix2 k q) = x (ix3 0 k q) := by
  pointwise [k0_pay1]

theorem pay2_apply (x : Vec Ideal S1x2048x512 .f32) (k : Fin 2048) (q : Fin 512) : k0_pay2 x (ix2 k q) = x (ix3 0 k q) := by
  pointwise [k0_pay2]

/-- Two neighbouring points of one sweep over the rows read the same weight blocks. -/
theorem pay1_succ (c : Dev nD) (n : ℕ) (hn : n + 1 < cfg0.N) (h : ¬(n + 1) % 8 = 0) :
    k0_pay1 (iblk m c 1 ⟨n, Nat.lt_of_succ_lt hn⟩) = k0_pay1 (iblk m c 1 ⟨n + 1, hn⟩) := by
  have e : n / 8 = (n + 1) / 8 := by omega
  funext j
  obtain ⟨k, q, rfl⟩ : ∃ (k : Fin 2048) (q : Fin 512), j = ix2 k q := ⟨j 0, j 1, eq_ix2 j⟩
  rw [pay1_apply, pay1_apply, blk1, blk1]
  simp only [e]

theorem pay2_succ (c : Dev nD) (n : ℕ) (hn : n + 1 < cfg0.N) (h : ¬(n + 1) % 8 = 0) :
    k0_pay2 (iblk m c 2 ⟨n, Nat.lt_of_succ_lt hn⟩) = k0_pay2 (iblk m c 2 ⟨n + 1, hn⟩) := by
  have e : n / 8 = (n + 1) / 8 := by omega
  funext j
  obtain ⟨k, q, rfl⟩ : ∃ (k : Fin 2048) (q : Fin 512), j = ix2 k q := ⟨j 0, j 1, eq_ix2 j⟩
  rw [pay2_apply, pay2_apply, blk2, blk2]
  simp only [e]

/-- After every point: the output block is the payload of the point's own blocks, the two carried weights are the point's own weight blocks. -/
theorem state_eq (c : Dev nD) : ∀ (n : ℕ) (h : n < cfg0.N), outsAt0 m c n h
    = (k0_pay3 (iblk m c 0 ⟨n, h⟩) (k0_pay1 (iblk m c 1 ⟨n, h⟩)) (k0_pay2 (iblk m c 2 ⟨n, h⟩)), k0_pay1 (iblk m c 1 ⟨n, h⟩), k0_pay2 (iblk m c 2 ⟨n, h⟩))
  | 0, h => by
    refine (outsAt0_A m c ⟨0, h⟩ rfl).trans ?_
    rw [out_A, sout_A0, sout_A1]
  | n + 1, h => by
    by_cases h0 : (n + 1) % 8 = 0
    · refine (outsAt0_A m c ⟨n + 1, h⟩ h0).trans ?_
      rw [out_A, sout_A0, sout_A1]
    · refine (outsAt0_B m c ⟨n + 1, h⟩ h0).trans ?_
      have ih := state_eq c n (Nat.lt_of_succ_lt h)
      show (out0_B_3 c _ _ _ _ _ _ _ _ _ _ _ _ _ _ _ _ _ (outsAt0 m c n (Nat.lt_of_succ_lt h)).2.1 (outsAt0 m c n (Nat.lt_of_succ_lt h)).2.2, (outsAt0 m c n (Nat.lt_of_succ_lt h)).2.1, (outsAt0 m c n (Nat.lt_of_succ_lt h)).2.2) = _
      rw [out_B, ih]
      dsimp only
      rw [pay1_succ m c n h h0, pay2_succ m c n h h0]

/-! ## The result -/

/-- What the reference computes, as one function of the three arguments. -/
def res (a : FVec Ideal S4x2048x2048 .f32) (w : FVec Ideal S2x2048x5632 .f32) (u : FVec Ideal S2x2048x5632 .f32) : FVec Ideal S8192x5632 .bf16 :=
  truncf .bf16 (shapeCast _ (mulf (mulf (Host.dotGeneral Cert.RefUpIdeal.dot_S4x2048x2048_S2048x5632_S4x2048x5632_2_0_01_1_n_n none a (shapeCast _ (extractStridedSlice Cert.RefUpIdeal.S1x2048x5632 ![0, 0, 0] w Cert.RefUpIdeal.Gen.slices_S2x2048x5632_S1x2048x5632_0_0_0) Cert.RefUpIdeal.Gen.shapeCasts_S1x2048x5632_S2048x5632)) (Host.divf (broadcastInDim Cert.RefUpIdeal.S4x2048x5632 ![] Cert.RefUpIdeal.Gen.bcast_S_S4x2048x5632 (constant ⟨0, ![]⟩ .f32 0x3F800000#32)) (addf (broadcastInDim Cert.RefUpIdeal.S4x2048x5632 ![] Cert.RefUpIdeal.Gen.bcast_S_S4x2048x5632 (constant ⟨0, ![]⟩ .f32 0x3F800000#32)) (Host.exp (Host.negf (Host.dotGeneral Cert.RefUpIdeal.dot_S4x2048x2048_S2048x5632_S4x2048x5632_2_0_01_1_n_n none a (shapeCast _ (extractStridedSlice Cert.RefUpIdeal.S1x2048x5632 ![0, 0, 0] w Cert.RefUpIdeal.Gen.slices_S2x2048x5632_S1x2048x5632_0_0_0) Cert.RefUpIdeal.Gen.shapeCasts_S1x2048x5632_S2048x5632))))))) (Host.dotGeneral Cert.RefUpIdeal.dot_S4x2048x2048_S2048x5632_S4x2048x5632_2_0_01_1_n_n none a (shapeCast _ (extractStridedSlice Cert.RefUpIdeal.S1x2048x5632 ![0, 0, 0] u Cert.RefUpIdeal.Gen.slices_S2x2048x5632_S1x2048x5632_0_0_0) Cert.RefUpIdeal.Gen.shapeCasts_S1x2048x5632_S2048x5632))) Cert.RefUpIdeal.Gen.shapeCasts_S4x2048x5632_S8192x5632) bitsLt_bf16_f32

/-- One row of the argument against one column of layer 0's weights. -/
def dotrow (a : FVec Ideal S4x2048x2048 .f32) (w : FVec Ideal S2x2048x5632 .f32) (r : Fin 8192) (q : Fin 5632) : EReal :=
  ∑ k : Fin 2048, shapeCast S8192x2048 a shapeCasts_S4x2048x2048_S8192x2048 (ix2 r k) * w (ix3 0 k q)

theorem res_apply (a : FVec Ideal S4x2048x2048 .f32) (w : FVec Ideal S2x2048x5632 .f32) (u : FVec Ideal S2x2048x5632 .f32) (r : Fin 8192) (q : Fin 5632) :
    res a w u (ix2 r q) = dotrow a w r q * Ideal.logistic (dotrow a w r q) * dotrow a u r q := by
  unfold res dotrow
  pointwise
  unfold Ideal.logistic
  rfl

theorem pay3_apply (x0 : Vec Ideal S1024x2048 .bf16) (x1 : Vec Ideal S2048x512 .bf16) (x2 : Vec Ideal S2048x512 .bf16) (r : Fin 1024) (q : Fin 512) :
    k0_pay3 x0 x1 x2 (ix2 r q) = (∑ k : Fin 2048, x0 (ix2 r k) * x1 (ix2 k q)) * Ideal.logistic (∑ k : Fin 2048, x0 (ix2 r k) * x1 (ix2 k q)) * ∑ k : Fin 2048, x0 (ix2 r k) * x2 (ix2 k q) := by
  pointwise [k0_pay3]
  rw [ofBits_half, sigmoid]

/-- The result array as the reference's function of the arguments. -/
def result (c : Dev nD) : Buf (Elt Ideal) ((c.tc : Thread nD τ).loc main_v2) := res (m ((c.tc : Thread nD τ).loc main_arg0)) (m ((c.tc : Thread nD τ).loc main_arg1)) (m ((c.tc : Thread nD τ).loc main_arg2))

theorem covers : (cfg0.win 3).Covers := by decide +kernel

theorem after_apply (c : Dev nD) (t : Fin cfg0.N) (r : Fin 1024) (q : Fin 512) : (dats m 0 c).after 3 t (ix2 r q) = k0_pay3 (iblk m c 0 t) (k0_pay1 (iblk m c 1 t)) (k0_pay2 (iblk m c 2 t)) (ix2 r q) := by
  rw [after0_3, state_eq]

theorem point (c : Dev nD) (t : Fin cfg0.N) (y : ((cfg0.win 3).xblock (cfg0.grid.coords t)).Idx) : (dats m 0 c).after 3 t y = result m c (((cfg0.win 3).blk t).view.emb y) := by
  obtain ⟨r, q, rfl⟩ : ∃ (r : Fin 1024) (q : Fin 512), y = ix2 r q := ⟨y 0, y 1, eq_ix2 y⟩
  obtain ⟨e3, e0, e1, e2, e⟩ := idx_facts t
  have hN : t.val < 88 := lt_of_lt_of_eq t.isLt (show cfg0.N = 88 from N_0)
  rw [e] at e3
  have h : ((cfg0.win 3).blk t).view.emb (ix2 r q) = ix2 (⟨(grid0.coords t 1).val * 1024 + r.val, by have := hi t; omega⟩ : Fin 8192) (⟨t.val / 8 * 512 + q.val, by omega⟩ : Fin 5632) := by
    blk_ext [e3]
  rw [h]
  refine (after_apply m c t r q).trans ?_
  unfold result
  rw [res_apply, pay3_apply]
  simp only [pay1_apply, pay2_apply, blk0, blk1, blk2]
  rfl

/-- What the region leaves in the result array is the reference's function of the arguments. -/
theorem final (c : Dev nD) : (dats m 0 c).arrAt 3 cfg0.N = result m c :=
  (dats m 0 c).arrAt_eq_of_covers 3 _ covers fun t hf y => point m c t y

theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.FfnUpIdeal.RefValue

open Idealize.ShloMosaic Idealize.ShloMosaic.TcCoe Idealize.SL.Sem in
/-- The gated up projection and its reference leave equal results. -/
theorem Cert.Proof.up_algebraic : Cert.algebraic_FfnUpIdeal_RefUpIdeal := by
  intro m g m' g' _ hag
  refine ⟨Cert.FfnUpIdeal.RefValue.result m, Cert.FfnUpIdeal.RefValue.run m g, ?_⟩
  refine (θ_run _ _ _).mono (fun r h c => ?_) (Cert.RefUpIdeal.Value.run m' g')
  obtain ⟨h0, h1, h2, h3⟩ := h c
  obtain ⟨a0, a1, a2⟩ := hag c
  refine ⟨?_, h1, h2, h3⟩
  rw [h0, a0, a1, a2]
  rfl

end
-- ==== Proof.DownValue.lean ====
module

public import proofs.«01_k».proof.Proof.Gen.FfnDownIdeal.Value
public import proofs.«01_k».proof.Defs
public import proofs.«01_k».proof.Proof.Gen.RefDownIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.FfnDownIdeal.RefValue

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the reference computes, as one function of the three arguments. -/
def res (a : FVec Ideal S8192x5632 .bf16) (w : FVec Ideal S2x5632x2048 .f32) (x : FVec Ideal S4x2048x2048 .f32) : FVec Ideal S8192x2048 .f32 :=
  shapeCast _ (addf x (mulf (broadcastInDim S4x2048x2048 ![] Cert.RefDownIdeal.Gen.bcast_S_S4x2048x2048 (constant ⟨0, ![]⟩ .f32 0x3F000000#32)) (Host.dotGeneral Cert.RefDownIdeal.dot_S4x2048x5632_S5632x2048_S4x2048x2048_2_0_01_1_n_n none (shapeCast _ (extf .f32 a Cert.RefDownIdeal.Gen.bitsLt_bf16_f32) Cert.RefDownIdeal.Gen.shapeCasts_S8192x5632_S4x2048x5632) (shapeCast _ (extractStridedSlice S1x5632x2048 ![0, 0, 0] w slices_S2x5632x2048_S1x5632x2048_0_0_0) shapeCasts_S1x5632x2048_S5632x2048)))) shapeCasts_S4x2048x2048_S8192x2048

theorem act_entry (c : Dev nD) : V (F := Ideal) m c main_arg0 = m ((c.tc : Thread nD τ).loc main_arg0) := V_main_arg0 m c

/-- The weight block as the region finds it: layer 0 of the down projection. -/
theorem weight_entry (c : Dev nD) : V (F := Ideal) m c main_v2 = truncf (F := Ideal) .bf16 (shapeCast S5632x2048 (extractStridedSlice S1x5632x2048 ![0, 0, 0] (m ((c.tc : Thread nD τ).loc main_arg1)) slices_S2x5632x2048_S1x5632x2048_0_0_0) shapeCasts_S1x5632x2048_S5632x2048) bitsLt_bf16_f32 := by
  unfold V hostOps0
  after_results <;> rfl

/-- The residual as the region finds it: its rows in order. -/
theorem resid_entry (c : Dev nD) : V (F := Ideal) m c main_v3 = shapeCast S8192x2048 (m ((c.tc : Thread nD τ).loc main_arg2)) shapeCasts_S4x2048x2048_S8192x2048 := by
  unfold V hostOps0
  after_results <;> rfl

/-- The block indices at a grid point. -/
theorem idx_facts : ∀ t : Fin cfg0.N, win0_3.index t = ![(grid0.coords t 1).val, (grid0.coords t 0).val] ∧ win0_0.index t = ![(grid0.coords t 1).val, 0]
    ∧ win0_1.index t = ![0, (grid0.coords t 0).val] ∧ win0_2.index t = ![(grid0.coords t 1).val, (grid0.coords t 0).val] :=
  (by decide +kernel : ∀ t : Fin grid0.N, _)

/-- The result at an index. -/
theorem res_apply (a : FVec Ideal S8192x5632 .bf16) (w : FVec Ideal S2x5632x2048 .f32) (x : FVec Ideal S4x2048x2048 .f32) (r : Fin 8192) (q : Fin 2048) :
    res a w x (ix2 r q) = x (ix3 ⟨r.val / 2048, by omega⟩ ⟨r.val % 2048, by omega⟩ q) + Ideal.ofBits FTy.f32 0x3F000000#32 * ∑ k : Fin 5632, a (ix2 r k) * w (ix3 0 k q) := by
  unfold res
  pointwise

theorem pay_apply (x2 : Vec Ideal S512x1024 .f32) (x0 : Vec Ideal S512x5632 .bf16) (x1 : Vec Ideal S5632x1024 .bf16) (r : Fin 512) (q : Fin 1024) :
    k0_pay1 x2 x0 x1 (ix2 r q) = x2 (ix2 r q) + Ideal.ofBits FTy.f32 0x3F000000#32 * ∑ k : Fin 5632, x0 (ix2 r k) * x1 (ix2 k q) := by
  pointwise [k0_pay1]

theorem hi (t : Fin cfg0.N) : (grid0.coords t 1).val < 16 := (grid0.coords t 1).isLt
theorem hn (t : Fin cfg0.N) : (grid0.coords t 0).val < 2 := (grid0.coords t 0).isLt

theorem blk0 (c : Dev nD) (t : Fin cfg0.N) (r : Fin 512) (k : Fin 5632) :
    iblk m c 0 t (ix2 r k) = m ((c.tc : Thread nD τ).loc main_arg0) (ix2 ⟨(grid0.coords t 1).val * 512 + r.val, by have := hi t; omega⟩ k) := by
  obtain ⟨e3, e0, e1, e2⟩ := idx_facts t
  blk_simp [iblk]
  rw [act_entry]
  congr 1
  blk_ext [e0]

theorem blk1 (c : Dev nD) (t : Fin cfg0.N) (k : Fin 5632) (q : Fin 1024) :
    iblk m c 1 t (ix2 k q) = m ((c.tc : Thread nD τ).loc main_arg1) (ix3 0 k ⟨(grid0.coords t 0).val * 1024 + q.val, by have := hn t; omega⟩) := by
  obtain ⟨e3, e0, e1, e2⟩ := idx_facts t
  have h : ((cfg0.win 1).blk t).view.emb (ix2 k q) = ix2 k (⟨(grid0.coords t 0).val * 1024 + q.val, by have := hn t; omega⟩ : Fin 2048) := by
    blk_ext [e1]
  show V m c main_v2 (((cfg0.win 1).blk t).view.emb (ix2 k q)) = _
  rw [h, weight_entry]
  pointwise

theorem blk2 (c : Dev nD) (t : Fin cfg0.N) (r : Fin 512) (q : Fin 1024) :
    iblk m c 2 t (ix2 r q) = shapeCast S8192x2048 (m ((c.tc : Thread nD τ).loc main_arg2)) shapeCasts_S4x2048x2048_S8192x2048 (ix2 (⟨(grid0.coords t 1).val * 512 + r.val, by have := hi t; omega⟩ : Fin 8192) (⟨(grid0.coords t 0).val * 1024 + q.val, by have := hn t; omega⟩ : Fin 2048)) := by
  obtain ⟨e3, e0, e1, e2⟩ := idx_facts t
  have h : ((cfg0.win 2).blk t).view.emb (ix2 r q) = ix2 (⟨(grid0.coords t 1).val * 512 + r.val, by have := hi t; omega⟩ : Fin 8192) (⟨(grid0.coords t 0).val * 1024 + q.val, by have := hn t; omega⟩ : Fin 2048) := by
    blk_ext [e2]
  show V m c main_v3 (((cfg0.win 2).blk t).view.emb (ix2 r q)) = _
  rw [h, resid_entry]

/-- The result array as the reference's function of the arguments. -/
def result (c : Dev nD) : Buf (Elt Ideal) ((c.tc : Thread nD τ).loc main_v4) := res (m ((c.tc : Thread nD τ).loc main_arg0)) (m ((c.tc : Thread nD τ).loc main_arg1)) (m ((c.tc : Thread nD τ).loc main_arg2))

theorem covers : (cfg0.win 3).Covers := by decide +kernel

theorem res_rows (a : FVec Ideal S8192x5632 .bf16) (w : FVec Ideal S2x5632x2048 .f32) (x : FVec Ideal S4x2048x2048 .f32) (r : Fin 8192) (q : Fin 2048) :
    res a w x (ix2 r q) = shapeCast S8192x2048 x shapeCasts_S4x2048x2048_S8192x2048 (ix2 r q) + Ideal.ofBits FTy.f32 0x3F000000#32 * ∑ k : Fin 5632, a (ix2 r k) * w (ix3 0 k q) := by
  rw [res_apply]
  pointwise

theorem after_apply (c : Dev nD) (t : Fin cfg0.N) (r : Fin 512) (q : Fin 1024) : (dats m 0 c).after 3 t (ix2 r q) = k0_pay1 (iblk m c 2 t) (iblk m c 0 t) (iblk m c 1 t) (ix2 r q) := by
  rw [after0_3]; frame_out

theorem point (c : Dev nD) (t : Fin cfg0.N) (y : ((cfg0.win 3).xblock (cfg0.grid.coords t)).Idx) : (dats m 0 c).after 3 t y = result m c (((cfg0.win 3).blk t).view.emb y) := by
  obtain ⟨r, q, rfl⟩ : ∃ (r : Fin 512) (q : Fin 1024), y = ix2 r q := ⟨y 0, y 1, eq_ix2 y⟩
  obtain ⟨e3, e0, e1, e2⟩ := idx_facts t
  have h : ((cfg0.win 3).blk t).view.emb (ix2 r q) = ix2 (⟨(grid0.coords t 1).val * 512 + r.val, by have := hi t; omega⟩ : Fin 8192) (⟨(grid0.coords t 0).val * 1024 + q.val, by have := hn t; omega⟩ : Fin 2048) := by
    blk_ext [e3]
  rw [h]
  refine (after_apply m c t r q).trans ?_
  unfold result
  rw [res_rows, pay_apply, blk2]
  simp only [blk0, blk1]

/-- What the region leaves in the result array is the reference's function of the arguments. -/
theorem final (c : Dev nD) : (dats m 0 c).arrAt 3 cfg0.N = result m c :=
  (dats m 0 c).arrAt_eq_of_covers 3 _ covers fun t hf y => point m c t y

theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.FfnDownIdeal.RefValue

open Idealize.ShloMosaic Idealize.ShloMosaic.TcCoe Idealize.SL.Sem in
/-- The down projection and its reference leave equal results. -/
theorem Cert.Proof.down_algebraic : Cert.algebraic_FfnDownIdeal_RefDownIdeal := by
  intro m g m' g' _ hag
  refine ⟨Cert.FfnDownIdeal.RefValue.result m, Cert.FfnDownIdeal.RefValue.run m g, ?_⟩
  refine (θ_run _ _ _).mono (fun r h c => ?_) (Cert.RefDownIdeal.Value.run m' g')
  obtain ⟨h0, h1, h2, h3⟩ := h c
  obtain ⟨a0, a1, a2⟩ := hag c
  refine ⟨?_, h1, h2, h3⟩
  rw [h0, a0, a1, a2]
  rfl

end
-- ==== Proof.InRun.lean ====
module

public import proofs.«01_k».proof.Proof.Gen.InProjIdeal.Frame
public import proofs.«01_k».proof.Proof.Gen.InProjIdeal.Skeleton
public import Idealize.ShloMosaic.Lib.Claim
public import Idealize.ShloMosaic.Lib.Pipeline.ValueKit.Acc
public import Idealize.ShloMosaic.Lib.Tactic

@[expose] public section

/-! The run of the input projection with the contents of both outputs named. At points 0..4 of a row block the body
    stores a block of the unactivated columns and leaves the gate buffer alone; at points 5..10 it stores a gate block
    and leaves the other buffer as point 4 left it, which the last point writes back once more. -/

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The branch conditions in closed form -/

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

abbrev cond0_1 (i : grid0.Coords) : Prop := k0_cond2 i = 1#1

theorem hcond0_1 : ∀ t : Fin cfg0.N, cond0_1 (grid0.coords t) ↔ t.val % 11 ≤ 4 :=
  (by decide +kernel : ∀ t : Fin grid0.N, cond0_1 (grid0.coords t) ↔ t.val % 11 ≤ 4)

abbrev cond0_2 (i : grid0.Coords) : Prop := k0_cond3 i = 1#1

theorem hcond0_2 : ∀ t : Fin cfg0.N, cond0_2 (grid0.coords t) ↔ 5 ≤ t.val % 11 :=
  (by decide +kernel : ∀ t : Fin grid0.N, cond0_2 (grid0.coords t) ↔ 5 ≤ t.val % 11)

/-! ## Where the outputs are idle and where they are written back -/

theorem idle3 : ∀ t : Fin cfg0.N, cfg0.idle 3 (grid0.coords t) = !decide (t.val % 11 ≤ 4) := by decide +kernel
theorem idle4 : ∀ t : Fin cfg0.N, cfg0.idle 4 (grid0.coords t) = !decide (5 ≤ t.val % 11) := by decide +kernel
theorem flush3 : ∀ t : Fin cfg0.N, (cfg0.win 3).flush t = decide (t.val % 11 ≤ 3 ∨ t.val % 11 = 10) := by decide +kernel
theorem flush4 : ∀ t : Fin cfg0.N, (cfg0.win 4).flush t = decide (5 ≤ t.val % 11) := by decide +kernel
theorem fetch3 : ∀ t : Fin cfg0.N, (cfg0.win 3).fetch t = false := fun _ => rfl

/-! ## The body's triple, case by case -/

theorem zz : (![0, 0] : Fin 2 → Nat) = fun _ => 0 := funext fun a => by fin_cases a <;> rfl
theorem zz3 : (![0, 0, 0] : Fin 3 → Nat) = fun _ => 0 := funext fun a => by fin_cases a <;> rfl

set_option maxHeartbeats 1000000 in
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x2048 .bf16) (harg7 : arg7.IsWhole) (hc0 : cond0_0 i) (hc1 : cond0_1 i) (hc2 : ¬cond0_2 i)
    (x0 : Vec F S1024x2048 .f32) (x1 : Vec F S1x2048 .f32) (x2 : Vec F S1x1024x2048 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg7 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%d7, %f7, -, H7⟩, Hk⟩
  obtain rfl := harg2.eq_unread hf2; obtain rfl := harg3.eq_unread hf3; obtain rfl := harg4.eq_unread hf4
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ ?_).trans ?_
    · exact fun y => View.cover_of_tiledL _ S1024x1024.size (by sl_kernel_rfl) y
    sl_unfold_words
    rw [View.canon_unit_zero zz]
    try rw [View.readCov_unit_zero (S := S1024x2048) _ zz]
    simp only [View.readAt_eq_ld, harg2.read_unread, harg3.read_unread, harg4.read_unread, harg7.read_unread, View.ld_unit_zero (S := S1024x2048) zz, View.ld_unit_zero (S := S1x2048) zz, View.ld_unit_zero (S := S1x1024x2048) zz3]
  iexists _; isplitr
  swap; · iexact H7
  ipureintro
  refine (View.read_writes_eq_canon _ _ _ ?_).trans ?_
  · exact fun y => View.cover_of_tiledL _ S1024x2048.size (by sl_kernel_rfl) y
  sl_unfold_words
  rw [View.canon_unit_zero zz]
  try rw [View.readCov_unit_zero (S := S1024x2048) _ zz]
  simp only [View.readAt_eq_ld, harg2.read_unread, harg3.read_unread, harg4.read_unread, harg7.read_unread, View.ld_unit_zero (S := S1024x2048) zz, View.ld_unit_zero (S := S1x2048) zz, View.ld_unit_zero (S := S1x1024x2048) zz3]

set_option maxHeartbeats 1000000 in
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : cond0_1 i) (hc2 : ¬cond0_2 i)
    (x2 : Vec F S1x1024x2048 .bf16) (xs : Vec F S1024x2048 .bf16) (E : Set ℕ) (K : PUnit → sProp (MT nD τ sig Unit (Elt F) ℕ (UR sig nD τ) ℕ)) :
    iprop(owns (c : Thread nD τ) arg4 fullShare x2 ∗ (∃ d, owns (c : Thread nD τ) arg5 fullShare d) ∗ owns (c : Thread nD τ) arg7 fullShare xs
        ∗ (iprop(owns (c : Thread nD τ) arg4 fullShare x2 ∗ owns (c : Thread nD τ) arg5 fullShare (k0_pay2 xs x2) ∗ owns (c : Thread nD τ) arg7 fullShare xs) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f4, %hf4, H4⟩, ⟨%d5, %f5, -, H5⟩, ⟨%f7, %hf7, H7⟩, Hk⟩
  obtain rfl := harg4.eq_unread hf4; obtain rfl := harg7.eq_unread hf7
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr
    swap; · iexact H5
    ipureintro
    refine (View.read_writes_eq_canon _ _ _ ?_).trans ?_
    · exact fun y => View.cover_of_tiledL _ S1024x1024.size (by sl_kernel_rfl) y
    sl_unfold_words
    rw [View.canon_unit_zero zz]
    try rw [View.readCov_unit_zero (S := S1024x2048) _ zz]
    simp only [View.readAt_eq_ld, harg2.read_unread, harg3.read_unread, harg4.read_unread, harg7.read_unread, View.ld_unit_zero (S := S1024x2048) zz, View.ld_unit_zero (S := S1x2048) zz, View.ld_unit_zero (S := S1x1024x2048) zz3]
  iexists _; isplitr; · ipureintro; exact harg7.read_unread _
  iexact H7

set_option maxHeartbeats 1000000 in
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : cond0_2 i)
    (x2 : Vec F S1x1024x2048 .bf16) (xs : Vec F S1024x2048 .bf16) (E : Set ℕ) (K : PUnit → sProp (MT nD τ sig Unit (Elt F) ℕ (UR sig nD τ) ℕ)) :
    iprop(owns (c : Thread nD τ) arg4 fullShare x2 ∗ (∃ d, owns (c : Thread nD τ) arg6 fullShare d) ∗ owns (c : Thread nD τ) arg7 fullShare xs
        ∗ (iprop(owns (c : Thread nD τ) arg4 fullShare x2 ∗ owns (c : Thread nD τ) arg6 fullShare (k0_pay3 xs x2) ∗ owns (c : Thread nD τ) arg7 fullShare xs) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f4, %hf4, H4⟩, ⟨%d6, %f6, -, H6⟩, ⟨%f7, %hf7, H7⟩, Hk⟩
  obtain rfl := harg4.eq_unread hf4; obtain rfl := harg7.eq_unread hf7
  sl_exec (disch := first | sl_exact hc0 | sl_exact hc1 | sl_exact hc2)
  sl_step
  iapply Hk
  isplitl [H4]
  · iexists _; isplitr; · ipureintro; exact harg4.read_unread _
    iexact H4
  isplitl [H6]
  · iexists _; isplitr
    swap; · iexact H6
    ipureintro
    refine (View.read_writes_eq_canon _ _ _ ?_).trans ?_
    · exact fun y => View.cover_of_tiledL _ S1024x1024.size (by sl_kernel_rfl) y
    sl_unfold_words
    rw [View.canon_unit_zero zz]
    try rw [View.readCov_unit_zero (S := S1024x2048) _ zz]
    simp only [View.readAt_eq_ld, harg2.read_unread, harg3.read_unread, harg4.read_unread, harg7.read_unread, View.ld_unit_zero (S := S1024x2048) zz, View.ld_unit_zero (S := S1x2048) zz, View.ld_unit_zero (S := S1x1024x2048) zz3]
  iexists _; isplitr; · ipureintro; exact harg7.read_unread _
  iexact H7

/-! ## What each point leaves -/

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x1024x2048 .bf16 := win0_2.stage (cfg0.slots t 2)
abbrev ms0_3 (t : Fin cfg0.N) : Memref sig .tc .vmem S1024x1024 .f32 := win0_3.stage (cfg0.slots t 3)
abbrev ms0_4 (t : Fin cfg0.N) : Memref sig .tc .vmem S1024x1024 .bf16 := win0_4.stage (cfg0.slots t 4)
abbrev scM0_0 : Memref sig .tc .vmem S1024x2048 .bf16 := Memref.whole cc0_scratch0

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The first point of `t`'s row block. -/
def startPt (t : Fin cfg0.N) : Fin cfg0.N := ⟨t.val - t.val % 11, Nat.lt_of_le_of_lt (Nat.sub_le _ _) t.isLt⟩
/-- The last point up to `t` that stored a block of the unactivated columns. -/
def zPt (t : Fin cfg0.N) : Fin cfg0.N := ⟨t.val - t.val % 11 + min (t.val % 11) 4, Nat.lt_of_le_of_lt (by omega) t.isLt⟩

theorem startPt_eq (t : Fin cfg0.N) (h : t.val % 11 = 0) : startPt t = t := Fin.ext (by show t.val - t.val % 11 = t.val; omega)
theorem zPt_eq (t : Fin cfg0.N) (h : t.val % 11 ≤ 4) : zPt t = t := Fin.ext (by show t.val - t.val % 11 + min (t.val % 11) 4 = t.val; omega)

/-- The normalised rows kept in the scratch. -/
def hAt (c : Dev nD) (t : Fin cfg0.N) : Vec F S1024x2048 .bf16 := k0_pay1 (iblk m c 0 (startPt t)) (iblk m c 1 (startPt t))
def zAt (c : Dev nD) (t : Fin cfg0.N) : Vec F S1024x1024 .f32 := k0_pay2 (hAt m c t) (iblk m c 2 (zPt t))
def gAt (c : Dev nD) (t : Fin cfg0.N) : Vec F S1024x1024 .bf16 := k0_pay3 (hAt m c t) (iblk m c 2 t)

theorem hAt_start (c : Dev nD) (t : Fin cfg0.N) (h : t.val % 11 = 0) : hAt m c t = k0_pay1 (iblk m c 0 t) (iblk m c 1 t) := by
  unfold hAt; rw [startPt_eq t h]
theorem zAt_low (c : Dev nD) (t : Fin cfg0.N) (h : t.val % 11 ≤ 4) : zAt m c t = k0_pay2 (hAt m c t) (iblk m c 2 t) := by
  unfold zAt; rw [zPt_eq t h]
theorem hAt_pred (c : Dev nD) (t : Fin cfg0.N) (h : ¬t.val % 11 = 0) (hp : t.val - 1 < cfg0.N) : hAt m c ⟨t.val - 1, hp⟩ = hAt m c t := by
  have e : startPt ⟨t.val - 1, hp⟩ = startPt t := Fin.ext (by show t.val - 1 - (t.val - 1) % 11 = t.val - t.val % 11; omega)
  unfold hAt; rw [e]
theorem zAt_pred (c : Dev nD) (t : Fin cfg0.N) (h : 5 ≤ t.val % 11) (hp : t.val - 1 < cfg0.N) : zAt m c ⟨t.val - 1, hp⟩ = zAt m c t := by
  have e : zPt ⟨t.val - 1, hp⟩ = zPt t := Fin.ext (by show t.val - 1 - (t.val - 1) % 11 + min ((t.val - 1) % 11) 4 = t.val - t.val % 11 + min (t.val % 11) 4; omega)
  unfold zAt; rw [e, hAt_pred m c t (by omega)]

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (hAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zAt m c t
    | ⟨4, _⟩ => gAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zAt m c t := by dsimp only [dats]
theorem after0_4 (c : Dev nD) (t : Fin cfg0.N) : (dats m 0 c).after 4 t = gAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Through the gate points the unactivated output's buffer keeps what point 4 left. -/
theorem before0_3 (c : Dev nD) : ∀ (j : ℕ) (t : Fin cfg0.N), t.val % 11 = j + 5 → ∀ d, (dats m 0 c).before 3 t d = zAt m c t
  | 0, t, h, d => by
    have hp : t.val - 1 < cfg0.N := Nat.lt_of_le_of_lt (Nat.sub_le _ _) t.isLt
    rw [Dat.before_of_pos _ 3 t (by omega) (fetch3 t) d, flush3, decide_eq_false (by dsimp only; omega), if_neg Bool.false_ne_true]
    unfold Dat.left
    have hi : cfg0.idle 3 (grid0.coords ⟨t.val - 1, hp⟩) = false := by rw [idle3, decide_eq_true (by dsimp only; omega)]; rfl
    rw [hi]
    exact (after0_3 m c ⟨t.val - 1, hp⟩).trans (zAt_pred m c t (by omega) hp)
  | j + 1, t, h, d => by
    have hp : t.val - 1 < cfg0.N := Nat.lt_of_le_of_lt (Nat.sub_le _ _) t.isLt
    have hN : t.val < 88 := lt_of_lt_of_eq t.isLt (show cfg0.N = 88 from N_0)
    rw [Dat.before_of_pos _ 3 t (by omega) (fetch3 t) d, flush3, decide_eq_false (by dsimp only; omega), if_neg Bool.false_ne_true]
    unfold Dat.left
    have hi : cfg0.idle 3 (grid0.coords ⟨t.val - 1, hp⟩) = true := by rw [idle3, decide_eq_false (by dsimp only; omega)]; rfl
    rw [hi]
    exact (before0_3 c j ⟨t.val - 1, hp⟩ (by dsimp only; omega) d).trans (zAt_pred m c t (by omega) hp)

/-! ## The body obligation -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]

theorem leaves3_low (c : Dev nD) (t : Fin cfg0.N) (h : t.val % 11 ≤ 4) :
    (dats m 0 c).leavesExact 3 t = owns (c : Thread nD τ) (ms0_3 t) fullShare (zAt m c t) := by
  have hi : cfg0.idle 3 (cfg0.grid.coords t) = false := by
    rw [show cfg0.idle 3 (cfg0.grid.coords t) = !decide (t.val % 11 ≤ 4) from idle3 t, decide_eq_true h]; rfl
  rw [show (dats m 0 c).leavesExact 3 t = owns (c : Thread nD τ) (ms0_3 t) fullShare ((dats m 0 c).after 3 t) from by
    unfold Dat.leavesExact; rw [hi], after0_3]

theorem leaves4_high (c : Dev nD) (t : Fin cfg0.N) (h : 5 ≤ t.val % 11) :
    (dats m 0 c).leavesExact 4 t = owns (c : Thread nD τ) (ms0_4 t) fullShare (gAt m c t) := by
  have hi : cfg0.idle 4 (cfg0.grid.coords t) = false := by
    rw [show cfg0.idle 4 (cfg0.grid.coords t) = !decide (5 ≤ t.val % 11) from idle4 t, decide_eq_true h]; rfl
  rw [show (dats m 0 c).leavesExact 4 t = owns (c : Thread nD τ) (ms0_4 t) fullShare ((dats m 0 c).after 4 t) from by
    unfold Dat.leavesExact; rw [hi], after0_4]

/-- A point that stores nothing into the gate buffer hands it back as it was. -/
theorem leaves4_low (c : Dev nD) (t : Fin cfg0.N) (h : t.val % 11 ≤ 4) :
    iprop(∃ d, owns (c : Thread nD τ) (ms0_4 t) fullShare ((dats m 0 c).before 4 t d)) ⊢ (dats m 0 c).leavesExact 4 t := by
  have hi : cfg0.idle 4 (cfg0.grid.coords t) = true := by
    rw [show cfg0.idle 4 (cfg0.grid.coords t) = !decide (5 ≤ t.val % 11) from idle4 t, decide_eq_false (by omega)]; rfl
  have hf : (cfg0.win 4).flush t = false := by rw [flush4 t, decide_eq_false (by omega)]
  rw [Dat.leavesExact_idle _ 4 t hi hf]

/-- So does a point that stores nothing into the other one; where it is written back it holds what point 4 left. -/
theorem leaves3_high (c : Dev nD) (t : Fin cfg0.N) (h : 5 ≤ t.val % 11) :
    iprop(∃ d, owns (c : Thread nD τ) (ms0_3 t) fullShare ((dats m 0 c).before 3 t d)) ⊢ (dats m 0 c).leavesExact 3 t := by
  have hi : cfg0.idle 3 (cfg0.grid.coords t) = true := by
    rw [show cfg0.idle 3 (cfg0.grid.coords t) = !decide (t.val % 11 ≤ 4) from idle3 t, decide_eq_false (by omega)]; rfl
  by_cases h10 : t.val % 11 = 10
  · have hf : (cfg0.win 3).flush t = true := by rw [flush3 t, decide_eq_true (by omega)]
    rw [show (dats m 0 c).leavesExact 3 t = owns (c : Thread nD τ) (ms0_3 t) fullShare ((dats m 0 c).after 3 t) from by
      unfold Dat.leavesExact; rw [hi, hf], after0_3]
    iintro ⟨%d, H⟩
    rw [before0_3 m c 5 t h10 d]
    iexact H
  · have hf : (cfg0.win 3).flush t = false := by rw [flush3 t, decide_eq_false (by omega)]
    rw [Dat.leavesExact_idle _ 3 t hi hf]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 88 := lt_of_lt_of_eq t.isLt (show cfg0.N = 88 from N_0)
  rw [leaves0, leaves1, leaves2]
  by_cases h0 : t.val % 11 = 0
  · by_cases hz : t.val = 0
    · rw [PhiS_castSucc m c t, PhiS_zero m c _ _ hz, PhiA0_eq]
      rw [leaves3_low m c t (by omega), zAt_low m c t (by omega), hAt_start m c t h0]
      iintro ⟨⟨HS, Hg⟩, Ho, ⟨%d0, H0⟩, ⟨%d1, H1⟩, ⟨%d2, H2⟩, H3, H4⟩
      iapply (run_A c (grid0.coords t) _ _ _ _ _ _ _ _ _ _ _ _ ((hcond0_0 t).mpr h0) ((hcond0_1 t).mpr (by omega)) (fun h => absurd ((hcond0_2 t).mp h) (by omega)) (iblk m c 0 t) (iblk m c 1 t) (iblk m c 2 t) Set.univ _)
      isplitl [H0]; · iexact H0
      isplitl [H1]; · iexact H1
      isplitl [H2]; · iexact H2
      isplitl [H3]; · icases H3 with ⟨%e3, H3⟩; iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iapply (leaves4_low m c t (by omega)); iexact H4
    · rw [PhiS_castSucc m c t, PhiS_pos m c _ _ hz]
      rw [leaves3_low m c t (by omega), zAt_low m c t (by omega), hAt_start m c t h0]
      iintro ⟨⟨HS, Hg⟩, Ho, ⟨%d0, H0⟩, ⟨%d1, H1⟩, ⟨%d2, H2⟩, H3, H4⟩
      iapply (run_A c (grid0.coords t) _ _ _ _ _ _ _ _ _ _ _ _ ((hcond0_0 t).mpr h0) ((hcond0_1 t).mpr (by omega)) (fun h => absurd ((hcond0_2 t).mp h) (by omega)) (iblk m c 0 t) (iblk m c 1 t) (iblk m c 2 t) Set.univ _)
      isplitl [H0]; · iexact H0
      isplitl [H1]; · iexact H1
      isplitl [H2]; · iexact H2
      isplitl [H3]; · icases H3 with ⟨%e3, H3⟩; iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iapply (leaves4_low m c t (by omega)); iexact H4
  · by_cases h1 : t.val % 11 ≤ 4
    · rw [PhiS_castSucc m c t, PhiS_pos m c _ _ (by omega), hAt_pred m c t h0]
      rw [leaves3_low m c t h1, zAt_low m c t h1]
      iintro ⟨⟨HS, Hg⟩, Ho, ⟨%d0, H0⟩, ⟨%d1, H1⟩, ⟨%d2, H2⟩, H3, H4⟩
      iapply (run_B c (grid0.coords t) _ _ _ _ _ _ _ _ _ _ _ _ (fun h => h0 ((hcond0_0 t).mp h)) ((hcond0_1 t).mpr h1) (fun h => absurd ((hcond0_2 t).mp h) (by omega)) (iblk m c 2 t) (hAt m c t) Set.univ _)
      isplitl [H2]; · iexact H2
      isplitl [H3]; · icases H3 with ⟨%e3, H3⟩; iexists _; iexact H3
      isplitl [HS]; · iexact HS
      iintro ⟨H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iapply (leaves4_low m c t (by omega)); iexact H4
    · rw [PhiS_castSucc m c t, PhiS_pos m c _ _ (by omega), hAt_pred m c t h0]
      rw [leaves4_high m c t (by omega)]; unfold gAt
      iintro ⟨⟨HS, Hg⟩, Ho, ⟨%d0, H0⟩, ⟨%d1, H1⟩, ⟨%d2, H2⟩, H3, H4⟩
      iapply (run_C c (grid0.coords t) _ _ _ _ _ _ _ _ _ _ _ _ (fun h => h0 ((hcond0_0 t).mp h)) (fun h => h1 ((hcond0_1 t).mp h)) ((hcond0_2 t).mpr (by omega)) (iblk m c 2 t) (hAt m c t) Set.univ _)
      isplitl [H2]; · iexact H2
      isplitl [H4]; · icases H4 with ⟨%e4, H4⟩; iexists _; iexact H4
      isplitl [HS]; · iexact HS
      iintro ⟨H2, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (leaves3_high m c t (by omega)); iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 88 := N_0; omega)

/-! ## The run and the frame -/

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The outputs after the run -/

theorem post3 (r : PUnit × MemSt nD τ sig (Elt F)) (h : Pipeline.FramePost cfgs (dats m) 0 (V m) r) (c : Dev nD) :
    r.2.mem ((c : Thread nD τ).loc main_v20_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v20_1) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem run_blocks : θ_run defs (onTc (τ := τ) (main (F := F))) ⟨m, fun _ => 0, ρ⟩ fun r => ∀ c : Dev nD,
      r.2.mem ((c : Thread nD τ).loc main_v20_0) = (dats m 0 c).arrAt 3 cfg0.N
      ∧ r.2.mem ((c : Thread nD τ).loc main_v20_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      kept_main_arg0 m r h c,
      kept_main_arg1 m r h c,
      kept_main_arg2 m r h c⟩)
    (run_main m ρ)

end Cert.InProjIdeal.Gen

end
-- ==== Proof.InRef.lean ====
module

public import proofs.«01_k».proof.Defs
public import proofs.«01_k».proof.Proof.Gen.RefInIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.RefInIdeal.RefValue

open Cert.RefInIdeal Cert.RefInIdeal.Gen Idealize.ShloMosaic Idealize.ShloMosaic.TcCoe Idealize.SL.Sem

/-- Which column of the weights stands at position `q` of the packed order; 10834 for a column of zeros. -/
def src (q : ℕ) : ℕ :=
  if q < 768 then 2368 + (q - 0)
  else if q < 1024 then 2048 + (q - 768)
  else if q < 1536 then 1536 + (q - 1024)
  else if q < 3072 then 0 + (q - 1536)
  else if q < 4608 then 3136 + (q - 3072)
  else if q < 4617 then 4672 + (q - 4608)
  else if q < 4736 then 10834
  else if q < 4745 then 4681 + (q - 4736)
  else if q < 4864 then 10834
  else if q < 4928 then 2304 + (q - 4864)
  else if q < 5120 then 10834
  else 4690 + (q - 5120)

/-- Column `n` of an array of 10834 columns, zero past the last. -/
def zc (Z : Fin 10834 → EReal) (n : ℕ) : EReal := if h : n < 10834 then Z ⟨n, h⟩ else 0

theorem zc_of (Z : Fin 10834 → EReal) (n : ℕ) (h : n < 10834) (q : ℕ) (e : src q = n) : Z ⟨n, h⟩ = zc Z (src q) := by
  unfold zc; subst e; rw [dif_pos h]

theorem zc_gap (Z : Fin 10834 → EReal) (q : ℕ) (e : src q = 10834) : 0 = zc Z (src q) := by
  unfold zc; rw [dif_neg (by omega)]

theorem dcase {α : Type} {p : Prop} [Decidable p] {a : p → α} {b : ¬p → α} {c : α} (h : ∀ hp, a hp = c) (h' : ∀ hn, b hn = c) : dite p a b = c := by
  by_cases hp : p
  · rw [dif_pos hp]; exact h hp
  · rw [dif_neg hp]; exact h' hp

theorem icase {α : Type} {p : Prop} [Decidable p] {a b c : α} (h : p → a = c) (h' : ¬p → b = c) : ite p a b = c := by
  by_cases hp : p
  · rw [if_pos hp]; exact h hp
  · rw [if_neg hp]; exact h' hp

/-- The reference's pieces in the packed order. -/
def cat (Z : FVec Ideal S4x2048x10834 .f32) : FVec Ideal S4x2048x5120 .f32 :=
  concatenate S4x2048x5120 2 [⟨S4x2048x4864, ((concatenate S4x2048x4864 2 [⟨S4x2048x768, ((extractStridedSlice S4x2048x768 ![0, 0, 2368] Z slices_S4x2048x10834_S4x2048x768_0_0_2368) : (⟨S4x2048x768, .f32⟩ : BufTy).Contents (Elt Ideal))⟩, ⟨S4x2048x256, ((extractStridedSlice S4x2048x256 ![0, 0, 2048] Z slices_S4x2048x10834_S4x2048x256_0_0_2048) : (⟨S4x2048x256, .f32⟩ : BufTy).Contents (Elt Ideal))⟩, ⟨S4x2048x512, ((extractStridedSlice S4x2048x512 ![0, 0, 1536] Z slices_S4x2048x10834_S4x2048x512_0_0_1536) : (⟨S4x2048x512, .f32⟩ : BufTy).Contents (Elt Ideal))⟩, ⟨S4x2048x512, ((extractStridedSlice S4x2048x512 ![0, 0, 0] Z slices_S4x2048x10834_S4x2048x512_0_0_0) : (⟨S4x2048x512, .f32⟩ : BufTy).Contents (Elt Ideal))⟩, ⟨S4x2048x512, ((extractStridedSlice S4x2048x512 ![0, 0, 512] Z slices_S4x2048x10834_S4x2048x512_0_0_512) : (⟨S4x2048x512, .f32⟩ : BufTy).Contents (Elt Ideal))⟩, ⟨S4x2048x512, ((extractStridedSlice S4x2048x512 ![0, 0, 1024] Z slices_S4x2048x10834_S4x2048x512_0_0_1024) : (⟨S4x2048x512, .f32⟩ : BufTy).Contents (Elt Ideal))⟩, ⟨S4x2048x256, ((extractStridedSlice S4x2048x256 ![0, 0, 3136] Z slices_S4x2048x10834_S4x2048x256_0_0_3136) : (⟨S4x2048x256, .f32⟩ : BufTy).Contents (Elt Ideal))⟩, ⟨S4x2048x256, ((extractStridedSlice S4x2048x256 ![0, 0, 3392] Z slices_S4x2048x10834_S4x2048x256_0_0_3392) : (⟨S4x2048x256, .f32⟩ : BufTy).Contents (Elt Ideal))⟩, ⟨S4x2048x256, ((extractStridedSlice S4x2048x256 ![0, 0, 3648] Z slices_S4x2048x10834_S4x2048x256_0_0_3648) : (⟨S4x2048x256, .f32⟩ : BufTy).Contents (Elt Ideal))⟩, ⟨S4x2048x256, ((extractStridedSlice S4x2048x256 ![0, 0, 3904] Z slices_S4x2048x10834_S4x2048x256_0_0_3904) : (⟨S4x2048x256, .f32⟩ : BufTy).Contents (Elt Ideal))⟩, ⟨S4x2048x256, ((extractStridedSlice S4x2048x256 ![0, 0, 4160] Z slices_S4x2048x10834_S4x2048x256_0_0_4160) : (⟨S4x2048x256, .f32⟩ : BufTy).Contents (Elt Ideal))⟩, ⟨S4x2048x256, ((extractStridedSlice S4x2048x256 ![0, 0, 4416] Z slices_S4x2048x10834_S4x2048x256_0_0_4416) : (⟨S4x2048x256, .f32⟩ : BufTy).Contents (Elt Ideal))⟩, ⟨S4x2048x9, ((extractStridedSlice S4x2048x9 ![0, 0, 0] (extractStridedSlice S4x2048x18 ![0, 0, 4672] Z slices_S4x2048x10834_S4x2048x18_0_0_4672) slices_S4x2048x18_S4x2048x9_0_0_0) : (⟨S4x2048x9, .f32⟩ : BufTy).Contents (Elt Ideal))⟩, ⟨S4x2048x119, ((broadcastInDim S4x2048x119 ![] bcast_S_S4x2048x119 (constant (F := Ideal) S_ .f32 0x00000000#32)) : (⟨S4x2048x119, .f32⟩ : BufTy).Contents (Elt Ideal))⟩, ⟨S4x2048x9, ((extractStridedSlice S4x2048x9 ![0, 0, 9] (extractStridedSlice S4x2048x18 ![0, 0, 4672] Z slices_S4x2048x10834_S4x2048x18_0_0_4672) slices_S4x2048x18_S4x2048x9_0_0_9) : (⟨S4x2048x9, .f32⟩ : BufTy).Contents (Elt Ideal))⟩, ⟨S4x2048x119, ((broadcastInDim S4x2048x119 ![] bcast_S_S4x2048x119 (constant (F := Ideal) S_ .f32 0x00000000#32)) : (⟨S4x2048x119, .f32⟩ : BufTy).Contents (Elt Ideal))⟩] concatenates_S4x2048x768_S4x2048x256_S4x2048x512_S4x2048x512_S4x2048x512_S4x2048x512_S4x2048x256_S4x2048x256_S4x2048x256_S4x2048x256_S4x2048x256_S4x2048x256_S4x2048x9_S4x2048x119_S4x2048x9_S4x2048x119_S4x2048x4864_d2 : (⟨S4x2048x4864, .f32⟩ : BufTy).Contents (Elt Ideal)))⟩, ⟨S4x2048x256, (concatenate S4x2048x256 2 [⟨S4x2048x64, (extractStridedSlice S4x2048x64 ![0, 0, 2304] Z slices_S4x2048x10834_S4x2048x64_0_0_2304)⟩, ⟨S4x2048x192, (broadcastInDim S4x2048x192 ![] bcast_S_S4x2048x192 (constant (F := Ideal) S_ .f32 0x00000000#32))⟩] concatenates_S4x2048x64_S4x2048x192_S4x2048x256_d2)⟩] concatenates_S4x2048x4864_S4x2048x256_S4x2048x5120_d2

set_option maxHeartbeats 4000000 in
theorem cat_apply (Z : FVec Ideal S4x2048x10834 .f32) (b : Fin 4) (s : Fin 2048) (q : Fin 5120) :
    cat Z (ix3 b s q) = zc (fun n => Z (ix3 b s n)) (src q.val) := by
  have hq := q.isLt
  unfold cat
  pointwise
  repeat' first
    | (refine dcase ?_ ?_ <;> intro hcase)
    | (refine icase ?_ ?_ <;> intro hcase)
  all_goals first
    | refine zc_of (fun n => Z (ix3 b s n)) _ _ q.val ?_; unfold src; (repeat (first | rw [if_pos (by omega)] | rw [if_neg (by omega)])) <;> omega
    | refine zc_gap (fun n => Z (ix3 b s n)) q.val ?_; unfold src; (repeat (first | rw [if_pos (by omega)] | rw [if_neg (by omega)])) <;> omega

/-- One row scaled by the reciprocal root of its mean square. -/
def norm (x : Fin 2048 → EReal) (g : EReal) (q : Fin 2048) : EReal :=
  x q * Ideal.rsqrt (Ideal.div (∑ k : Fin 2048, x k * x k) (Ideal.ofBits FTy.f32 0x45000000#32) + Ideal.ofBits FTy.f32 0x358637BD#32) * g

def zz (x : FVec Ideal S4x2048x2048 .f32) (g : FVec Ideal S2x2048 .f32) (w : FVec Ideal S2x2048x10834 .f32) : FVec Ideal S4x2048x10834 .f32 :=
  Host.dotGeneral dot_S4x2048x2048_S2048x10834_S4x2048x10834_2_0_01_1_n_n none (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S2x2048_S1x2048_0_0) shapeCasts_S1x2048_S2048)))) (shapeCast _ (extractStridedSlice S1x2048x10834 ![0, 0, 0] w slices_S2x2048x10834_S1x2048x10834_0_0_0) shapeCasts_S1x2048x10834_S2048x10834)

theorem zz_apply (x : FVec Ideal S4x2048x2048 .f32) (g : FVec Ideal S2x2048 .f32) (w : FVec Ideal S2x2048x10834 .f32) (b : Fin 4) (s : Fin 2048) (n : Fin 10834) :
    zz x g w (ix3 b s n) = ∑ k : Fin 2048, norm (fun k => x (ix3 b s k)) (g (ix2 0 k)) k * w (ix3 0 k n) := by
  unfold zz norm
  pointwise

def res0 (x : FVec Ideal S4x2048x2048 .f32) (g : FVec Ideal S2x2048 .f32) (w : FVec Ideal S2x2048x10834 .f32) : FVec Ideal S8192x5120 .f32 :=
  shapeCast _ (cat (zz x g w)) shapeCasts_S4x2048x5120_S8192x5120

def res1 (x : FVec Ideal S4x2048x2048 .f32) (g : FVec Ideal S2x2048 .f32) (w : FVec Ideal S2x2048x10834 .f32) : FVec Ideal S8192x6144 .bf16 :=
  truncf .bf16 (shapeCast _ (Host.divf (broadcastInDim S4x2048x6144 ![] bcast_S_S4x2048x6144 (constant S_ .f32 0x3F800000#32)) (addf (broadcastInDim S4x2048x6144 ![] bcast_S_S4x2048x6144 (constant S_ .f32 0x3F800000#32)) (Host.exp (Host.negf (extractStridedSlice S4x2048x6144 ![0, 0, 4690] (zz x g w) slices_S4x2048x10834_S4x2048x6144_0_0_4690))))) shapeCasts_S4x2048x6144_S8192x6144) bitsLt_bf16_f32

/-- Row `r` of the 8192 rows. -/
def row (x : FVec Ideal S4x2048x2048 .f32) (r : Fin 8192) (k : Fin 2048) : EReal := shapeCast (⟨2, ![8192, 2048]⟩ : Shape) x (by decide) (ix2 r k)

/-- A normalised row against column `n` of the layer's weights. -/
def dotcol (x : FVec Ideal S4x2048x2048 .f32) (g : FVec Ideal S2x2048 .f32) (w : FVec Ideal S2x2048x10834 .f32) (r : Fin 8192) (n : ℕ) : EReal :=
  ∑ k : Fin 2048, norm (row x r) (g (ix2 0 k)) k * zc (fun n => w (ix3 0 k n)) n

theorem zc_zz (x : FVec Ideal S4x2048x2048 .f32) (g : FVec Ideal S2x2048 .f32) (w : FVec Ideal S2x2048x10834 .f32) (r : Fin 8192) (n : ℕ) :
    zc (fun j => zz x g w (ix3 (⟨r.val / 2048, by omega⟩ : Fin 4) (⟨r.val % 2048, by omega⟩ : Fin 2048) j)) n = dotcol x g w r n := by
  unfold dotcol zc
  by_cases h : n < 10834
  · simp only [dif_pos h]
    rw [zz_apply]
    unfold row
    pointwise
  · simp only [dif_neg h, mul_zero, Finset.sum_const_zero]

theorem res0_apply (x : FVec Ideal S4x2048x2048 .f32) (g : FVec Ideal S2x2048 .f32) (w : FVec Ideal S2x2048x10834 .f32) (r : Fin 8192) (q : Fin 5120) :
    res0 x g w (ix2 r q) = dotcol x g w r (src q.val) := by
  rw [← zc_zz, ← cat_apply]
  unfold res0
  generalize cat (zz x g w) = C
  pointwise

theorem res1_apply (x : FVec Ideal S4x2048x2048 .f32) (g : FVec Ideal S2x2048 .f32) (w : FVec Ideal S2x2048x10834 .f32) (r : Fin 8192) (q : Fin 6144) :
    res1 x g w (ix2 r q) = Ideal.logistic (dotcol x g w r (4690 + q.val)) := by
  have hq := q.isLt
  rw [← zc_zz]
  unfold res1 zc
  rw [dif_pos (by omega)]
  generalize zz x g w = C
  pointwise
  unfold Ideal.logistic
  rfl

end Cert.RefInIdeal.RefValue

end
-- ==== Proof.InPack.lean ====
module

public import proofs.«01_k».proof.Proof.InRun
public import proofs.«01_k».proof.Proof.InRef
public import proofs.«01_k».proof.Defs
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.RefInIdeal.RefValue (src zc zc_of zc_gap dcase icase norm row dotcol res0 res1 res0_apply res1_apply)

variable (m : (ℓ : Loc nD τ sig) → Buf (Elt Ideal) ℓ) (ρ : Dev nD → PrngReg)

/-! ## The arrays the region finds -/

/-- The packed weights: the columns of the argument as rows, in the packed order. -/
def pk (w : FVec Ideal S2x2048x10834 .f32) : FVec Ideal S2x11264x2048 .f32 :=
  concatenate S2x11264x2048 1 [⟨S2x768x2048, ((extractStridedSlice S2x768x2048 ![0, 0, 0] (extractStridedSlice S2x2304x2048 ![0, 2368, 0] (transpose S2x10834x2048 [0, 2, 1] w transposes_S2x2048x10834_S2x10834x2048_0_2_1) slices_S2x10834x2048_S2x2304x2048_0_2368_0) slices_S2x2304x2048_S2x768x2048_0_0_0) : (⟨S2x768x2048, .f32⟩ : BufTy).Contents (Elt Ideal))⟩, ⟨S2x256x2048, ((extractStridedSlice S2x256x2048 ![0, 2048, 0] (transpose S2x10834x2048 [0, 2, 1] w transposes_S2x2048x10834_S2x10834x2048_0_2_1) slices_S2x10834x2048_S2x256x2048_0_2048_0) : (⟨S2x256x2048, .f32⟩ : BufTy).Contents (Elt Ideal))⟩, ⟨S2x512x2048, ((extractStridedSlice S2x512x2048 ![0, 1536, 0] (transpose S2x10834x2048 [0, 2, 1] w transposes_S2x2048x10834_S2x10834x2048_0_2_1) slices_S2x10834x2048_S2x512x2048_0_1536_0) : (⟨S2x512x2048, .f32⟩ : BufTy).Contents (Elt Ideal))⟩, ⟨S2x1536x2048, ((extractStridedSlice S2x1536x2048 ![0, 0, 0] (transpose S2x10834x2048 [0, 2, 1] w transposes_S2x2048x10834_S2x10834x2048_0_2_1) slices_S2x10834x2048_S2x1536x2048_0_0_0) : (⟨S2x1536x2048, .f32⟩ : BufTy).Contents (Elt Ideal))⟩, ⟨S2x1536x2048, ((extractStridedSlice S2x1536x2048 ![0, 768, 0] (extractStridedSlice S2x2304x2048 ![0, 2368, 0] (transpose S2x10834x2048 [0, 2, 1] w transposes_S2x2048x10834_S2x10834x2048_0_2_1) slices_S2x10834x2048_S2x2304x2048_0_2368_0) slices_S2x2304x2048_S2x1536x2048_0_768_0) : (⟨S2x1536x2048, .f32⟩ : BufTy).Contents (Elt Ideal))⟩, ⟨S2x9x2048, ((extractStridedSlice S2x9x2048 ![0, 4672, 0] (transpose S2x10834x2048 [0, 2, 1] w transposes_S2x2048x10834_S2x10834x2048_0_2_1) slices_S2x10834x2048_S2x9x2048_0_4672_0) : (⟨S2x9x2048, .f32⟩ : BufTy).Contents (Elt Ideal))⟩, ⟨S2x119x2048, ((broadcastInDim S2x119x2048 ![] bcast_S_S2x119x2048 (constant (F := Ideal) S_ .f32 0x00000000#32)) : (⟨S2x119x2048, .f32⟩ : BufTy).Contents (Elt Ideal))⟩, ⟨S2x9x2048, ((extractStridedSlice S2x9x2048 ![0, 4681, 0] (transpose S2x10834x2048 [0, 2, 1] w transposes_S2x2048x10834_S2x10834x2048_0_2_1) slices_S2x10834x2048_S2x9x2048_0_4681_0) : (⟨S2x9x2048, .f32⟩ : BufTy).Contents (Elt Ideal))⟩, ⟨S2x119x2048, ((broadcastInDim S2x119x2048 ![] bcast_S_S2x119x2048 (constant (F := Ideal) S_ .f32 0x00000000#32)) : (⟨S2x119x2048, .f32⟩ : BufTy).Contents (Elt Ideal))⟩, ⟨S2x64x2048, ((extractStridedSlice S2x64x2048 ![0, 2304, 0] (transpose S2x10834x2048 [0, 2, 1] w transposes_S2x2048x10834_S2x10834x2048_0_2_1) slices_S2x10834x2048_S2x64x2048_0_2304_0) : (⟨S2x64x2048, .f32⟩ : BufTy).Contents (Elt Ideal))⟩, ⟨S2x192x2048, ((broadcastInDim S2x192x2048 ![] bcast_S_S2x192x2048 (constant (F := Ideal) S_ .f32 0x00000000#32)) : (⟨S2x192x2048, .f32⟩ : BufTy).Contents (Elt Ideal))⟩, ⟨S2x6144x2048, ((extractStridedSlice S2x6144x2048 ![0, 4690, 0] (transpose S2x10834x2048 [0, 2, 1] w transposes_S2x2048x10834_S2x10834x2048_0_2_1) slices_S2x10834x2048_S2x6144x2048_0_4690_0) : (⟨S2x6144x2048, .f32⟩ : BufTy).Contents (Elt Ideal))⟩] concatenates_S2x768x2048_S2x256x2048_S2x512x2048_S2x1536x2048_S2x1536x2048_S2x9x2048_S2x119x2048_S2x9x2048_S2x119x2048_S2x64x2048_S2x192x2048_S2x6144x2048_S2x11264x2048_d1

set_option maxHeartbeats 4000000 in
theorem pk_apply (w : FVec Ideal S2x2048x10834 .f32) (q : Fin 11264) (k : Fin 2048) :
    pk w (ix3 0 q k) = zc (fun n => w (ix3 0 k n)) (src q.val) := by
  have hq := q.isLt
  unfold pk
  pointwise
  repeat' first
    | (refine dcase ?_ ?_ <;> intro hcase)
    | (refine icase ?_ ?_ <;> intro hcase)
  all_goals first
    | refine zc_of (fun n => w (ix3 0 k n)) _ _ q.val ?_; unfold src; (repeat (first | rw [if_pos (by omega)] | rw [if_neg (by omega)])) <;> omega
    | refine zc_gap (fun n => w (ix3 0 k n)) q.val ?_; unfold src; (repeat (first | rw [if_pos (by omega)] | rw [if_neg (by omega)])) <;> omega

end Cert.InProjIdeal.RefValue

end
-- ==== Proof.InValue.lean ====
module

public import proofs.«01_k».proof.Proof.InRun
public import proofs.«01_k».proof.Proof.InRef
public import proofs.«01_k».proof.Proof.InPack
public import proofs.«01_k».proof.Proof.UpValue
public import proofs.«01_k».proof.Defs
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.RefInIdeal.RefValue (src zc zc_of zc_gap dcase icase row dotcol res0 res1 res0_apply res1_apply)

variable (m : (ℓ : Loc nD τ sig) → Buf (Elt Ideal) ℓ) (ρ : Dev nD → PrngReg)

/-! ## The arrays the region finds -/

theorem rows_entry (c : Dev nD) : V (F := Ideal) m c main_v0 = shapeCast S8192x2048 (m ((c.tc : Thread nD τ).loc main_arg0)) shapeCasts_S4x2048x2048_S8192x2048 := by
  unfold V hostOps0
  after_results <;> rfl

theorem gain_entry (c : Dev nD) : V (F := Ideal) m c main_v19 = shapeCast S1x2048 (shapeCast S2048 (extractStridedSlice S1x2048 ![0, 0] (m ((c.tc : Thread nD τ).loc main_arg1)) slices_S2x2048_S1x2048_0_0) shapeCasts_S1x2048_S2048) shapeCasts_S2048_S1x2048 := by
  unfold V hostOps0
  after_results <;> rfl

theorem weight_entry (c : Dev nD) : V (F := Ideal) m c main_v18 = truncf (F := Ideal) .bf16 (pk (m ((c.tc : Thread nD τ).loc main_arg2))) bitsLt_bf16_f32 := by
  unfold V hostOps0
  after_results_simp <;> (try dsimp only [Matrix.cons_val]) <;> (try after_results_simp) <;> rfl

/-- The block indices at a grid point. -/
theorem idx_facts : ∀ t : Fin cfg0.N, win0_3.index t = ![t.val / 11, min (t.val % 11) 4] ∧ win0_4.index t = ![t.val / 11, t.val % 11 - 5]
    ∧ win0_0.index t = ![t.val / 11, 0] ∧ win0_1.index t = ![0, 0] ∧ win0_2.index t = ![0, t.val % 11, 0] :=
  (by decide +kernel : ∀ t : Fin grid0.N, _)

theorem blk0 (c : Dev nD) (t : Fin cfg0.N) (r : Fin 1024) (k : Fin 2048) :
    iblk m c 0 t (ix2 r k) = row (m ((c.tc : Thread nD τ).loc main_arg0)) (⟨t.val / 11 * 1024 + r.val, by have := lt_of_lt_of_eq t.isLt (show cfg0.N = 88 from N_0); omega⟩ : Fin 8192) k := by
  obtain ⟨e3, e4, e0, e1, e2⟩ := idx_facts t
  have h : ((cfg0.win 0).blk t).view.emb (ix2 r k) = ix2 (⟨t.val / 11 * 1024 + r.val, by have := lt_of_lt_of_eq t.isLt (show cfg0.N = 88 from N_0); omega⟩ : Fin 8192) k := by
    blk_ext [e0]
  show V m c main_v0 (((cfg0.win 0).blk t).view.emb (ix2 r k)) = _
  rw [h, rows_entry]
  rfl

theorem blk1 (c : Dev nD) (t : Fin cfg0.N) (q : Fin 2048) :
    iblk m c 1 t (ix2 0 q) = (m ((c.tc : Thread nD τ).loc main_arg1)) (ix2 0 q) := by
  obtain ⟨e3, e4, e0, e1, e2⟩ := idx_facts t
  have h : ((cfg0.win 1).blk t).view.emb (ix2 0 q) = ix2 (0 : Fin 1) q := by
    blk_ext [e1]
  show V m c main_v19 (((cfg0.win 1).blk t).view.emb (ix2 0 q)) = _
  rw [h, gain_entry]
  pointwise

theorem blk2 (c : Dev nD) (t : Fin cfg0.N) (q : Fin 1024) (k : Fin 2048) :
    iblk m c 2 t (ix3 0 q k) = zc (fun n => (m ((c.tc : Thread nD τ).loc main_arg2)) (ix3 0 k n)) (src (t.val % 11 * 1024 + q.val)) := by
  obtain ⟨e3, e4, e0, e1, e2⟩ := idx_facts t
  have h : ((cfg0.win 2).blk t).view.emb (ix3 0 q k) = ix3 (0 : Fin 2) (⟨t.val % 11 * 1024 + q.val, by have := lt_of_lt_of_eq t.isLt (show cfg0.N = 88 from N_0); omega⟩ : Fin 11264) k := by
    blk_ext [e2]
  show V m c main_v18 (((cfg0.win 2).blk t).view.emb (ix3 0 q k)) = _
  rw [h, weight_entry]
  exact pk_apply (m ((c.tc : Thread nD τ).loc main_arg2)) (⟨t.val % 11 * 1024 + q.val, by have := lt_of_lt_of_eq t.isLt (show cfg0.N = 88 from N_0); omega⟩ : Fin 11264) k

/-! ## What one point leaves, entry by entry -/

theorem pay1_apply (x : Vec Ideal S1024x2048 .f32) (g : Vec Ideal S1x2048 .f32) (r : Fin 1024) (q : Fin 2048) :
    k0_pay1 x g (ix2 r q) = Cert.RefInIdeal.RefValue.norm (fun k => x (ix2 r k)) (g (ix2 0 q)) q := by
  unfold Cert.RefInIdeal.RefValue.norm
  pointwise [k0_pay1]

theorem pay2_apply (h : Vec Ideal S1024x2048 .bf16) (w : Vec Ideal S1x1024x2048 .bf16) (r q : Fin 1024) :
    k0_pay2 h w (ix2 r q) = ∑ k : Fin 2048, h (ix2 r k) * w (ix3 0 q k) := by
  pointwise [k0_pay2]

theorem pay3_apply (h : Vec Ideal S1024x2048 .bf16) (w : Vec Ideal S1x1024x2048 .bf16) (r q : Fin 1024) :
    k0_pay3 h w (ix2 r q) = Ideal.logistic (∑ k : Fin 2048, h (ix2 r k) * w (ix3 0 q k)) := by
  pointwise [k0_pay3]
  rw [Cert.FfnUpIdeal.RefValue.ofBits_half, Cert.FfnUpIdeal.RefValue.sigmoid]

theorem hAt_apply (c : Dev nD) (t : Fin cfg0.N) (r : Fin 1024) (k : Fin 2048) :
    hAt m c t (ix2 r k) = Cert.RefInIdeal.RefValue.norm (row (m ((c.tc : Thread nD τ).loc main_arg0)) (⟨t.val / 11 * 1024 + r.val, by have := lt_of_lt_of_eq t.isLt (show cfg0.N = 88 from N_0); omega⟩ : Fin 8192)) ((m ((c.tc : Thread nD τ).loc main_arg1)) (ix2 0 k)) k := by
  have e : (startPt t).val / 11 = t.val / 11 := by show (t.val - t.val % 11) / 11 = t.val / 11; omega
  unfold hAt
  rw [pay1_apply, blk1]
  simp only [blk0, e]

theorem src_gate (a b : ℕ) (h : 5 ≤ a) : src (a * 1024 + b) = 4690 + ((a - 5) * 1024 + b) := by
  unfold src
  repeat rw [if_neg (by omega)]
  omega

theorem zAt_apply (c : Dev nD) (t : Fin cfg0.N) (r q : Fin 1024) :
    zAt m c t (ix2 r q) = dotcol (m ((c.tc : Thread nD τ).loc main_arg0)) (m ((c.tc : Thread nD τ).loc main_arg1)) (m ((c.tc : Thread nD τ).loc main_arg2)) (⟨t.val / 11 * 1024 + r.val, by have := lt_of_lt_of_eq t.isLt (show cfg0.N = 88 from N_0); omega⟩ : Fin 8192) (src (min (t.val % 11) 4 * 1024 + q.val)) := by
  have e : (zPt t).val % 11 = min (t.val % 11) 4 := by show (t.val - t.val % 11 + min (t.val % 11) 4) % 11 = _; omega
  unfold zAt
  rw [pay2_apply]
  unfold dotcol
  refine Finset.sum_congr rfl fun k _ => ?_
  rw [hAt_apply, blk2, e]

theorem gAt_apply (c : Dev nD) (t : Fin cfg0.N) (ht : 5 ≤ t.val % 11) (r q : Fin 1024) :
    gAt m c t (ix2 r q) = Ideal.logistic (dotcol (m ((c.tc : Thread nD τ).loc main_arg0)) (m ((c.tc : Thread nD τ).loc main_arg1)) (m ((c.tc : Thread nD τ).loc main_arg2)) (⟨t.val / 11 * 1024 + r.val, by have := lt_of_lt_of_eq t.isLt (show cfg0.N = 88 from N_0); omega⟩ : Fin 8192) (4690 + ((t.val % 11 - 5) * 1024 + q.val))) := by
  unfold gAt
  rw [pay3_apply]
  refine congrArg Ideal.logistic ?_
  unfold dotcol
  refine Finset.sum_congr rfl fun k _ => ?_
  rw [hAt_apply, blk2, src_gate _ _ ht]

/-- The two result arrays as the reference's functions of the arguments. -/
def result0 (c : Dev nD) : Buf (Elt Ideal) ((c.tc : Thread nD τ).loc main_v20_0) := res0 (m ((c.tc : Thread nD τ).loc main_arg0)) (m ((c.tc : Thread nD τ).loc main_arg1)) (m ((c.tc : Thread nD τ).loc main_arg2))
def result1 (c : Dev nD) : Buf (Elt Ideal) ((c.tc : Thread nD τ).loc main_v20_1) := res1 (m ((c.tc : Thread nD τ).loc main_arg0)) (m ((c.tc : Thread nD τ).loc main_arg1)) (m ((c.tc : Thread nD τ).loc main_arg2))

theorem covers3 : (cfg0.win 3).Covers := by decide +kernel
theorem covers4 : (cfg0.win 4).Covers := by decide +kernel

theorem point3 (c : Dev nD) (t : Fin cfg0.N) (y : ((cfg0.win 3).xblock (cfg0.grid.coords t)).Idx) : (dats m 0 c).after 3 t y = result0 m c (((cfg0.win 3).blk t).view.emb y) := by
  obtain ⟨r, q, rfl⟩ : ∃ (r : Fin 1024) (q : Fin 1024), y = ix2 r q := ⟨y 0, y 1, eq_ix2 y⟩
  obtain ⟨e3, e4, e0, e1, e2⟩ := idx_facts t
  have h : ((cfg0.win 3).blk t).view.emb (ix2 r q) = ix2 (⟨t.val / 11 * 1024 + r.val, by have := lt_of_lt_of_eq t.isLt (show cfg0.N = 88 from N_0); omega⟩ : Fin 8192) (⟨min (t.val % 11) 4 * 1024 + q.val, by have := lt_of_lt_of_eq t.isLt (show cfg0.N = 88 from N_0); omega⟩ : Fin 5120) := by
    blk_ext [e3]
  rw [h]
  refine (congrFun (after0_3 m c t) (ix2 r q)).trans ?_
  exact (zAt_apply m c t r q).trans (res0_apply (m ((c.tc : Thread nD τ).loc main_arg0)) (m ((c.tc : Thread nD τ).loc main_arg1)) (m ((c.tc : Thread nD τ).loc main_arg2)) (⟨t.val / 11 * 1024 + r.val, by have := lt_of_lt_of_eq t.isLt (show cfg0.N = 88 from N_0); omega⟩ : Fin 8192) (⟨min (t.val % 11) 4 * 1024 + q.val, by have := lt_of_lt_of_eq t.isLt (show cfg0.N = 88 from N_0); omega⟩ : Fin 5120)).symm

theorem point4 (c : Dev nD) (t : Fin cfg0.N) (ht : 5 ≤ t.val % 11) (y : ((cfg0.win 4).xblock (cfg0.grid.coords t)).Idx) : (dats m 0 c).after 4 t y = result1 m c (((cfg0.win 4).blk t).view.emb y) := by
  obtain ⟨r, q, rfl⟩ : ∃ (r : Fin 1024) (q : Fin 1024), y = ix2 r q := ⟨y 0, y 1, eq_ix2 y⟩
  obtain ⟨e3, e4, e0, e1, e2⟩ := idx_facts t
  have h : ((cfg0.win 4).blk t).view.emb (ix2 r q) = ix2 (⟨t.val / 11 * 1024 + r.val, by have := lt_of_lt_of_eq t.isLt (show cfg0.N = 88 from N_0); omega⟩ : Fin 8192) (⟨(t.val % 11 - 5) * 1024 + q.val, by have := lt_of_lt_of_eq t.isLt (show cfg0.N = 88 from N_0); omega⟩ : Fin 6144) := by
    blk_ext [e4]
  rw [h]
  refine (congrFun (after0_4 m c t) (ix2 r q)).trans ?_
  exact (gAt_apply m c t ht r q).trans (res1_apply (m ((c.tc : Thread nD τ).loc main_arg0)) (m ((c.tc : Thread nD τ).loc main_arg1)) (m ((c.tc : Thread nD τ).loc main_arg2)) (⟨t.val / 11 * 1024 + r.val, by have := lt_of_lt_of_eq t.isLt (show cfg0.N = 88 from N_0); omega⟩ : Fin 8192) (⟨(t.val % 11 - 5) * 1024 + q.val, by have := lt_of_lt_of_eq t.isLt (show cfg0.N = 88 from N_0); omega⟩ : Fin 6144)).symm

theorem final3 (c : Dev nD) : (dats m 0 c).arrAt 3 cfg0.N = result0 m c :=
  (dats m 0 c).arrAt_eq_of_covers 3 _ covers3 fun t hf y => point3 m c t y

theorem final4 (c : Dev nD) : (dats m 0 c).arrAt 4 cfg0.N = result1 m c :=
  (dats m 0 c).arrAt_eq_of_covers 4 _ covers4 fun t hf y => point4 m c t (of_decide_eq_true ((flush4 t).symm.trans hf)) y

theorem run : θ_run defs (onTc (τ := τ) (main (F := Ideal))) ⟨m, fun _ => 0, ρ⟩ fun r => ∀ c : Dev nD,
      r.2.mem ((c.tc : Thread nD τ).loc main_v20_0) = result0 m c
      ∧ r.2.mem ((c.tc : Thread nD τ).loc main_v20_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final3 m c), (h c).2.1.trans (final4 m c), (h c).2.2⟩) (run_blocks m ρ)

end Cert.InProjIdeal.RefValue

open Idealize.ShloMosaic Idealize.ShloMosaic.TcCoe Idealize.SL.Sem in
/-- The input projection and its reference leave equal results. -/
theorem Cert.Proof.in_algebraic : Cert.algebraic_InProjIdeal_RefInIdeal := by
  intro m g m' g' _ hag
  refine ⟨Cert.InProjIdeal.RefValue.result0 m, Cert.InProjIdeal.RefValue.result1 m, Cert.InProjIdeal.RefValue.run m g, ?_⟩
  refine (θ_run _ _ _).mono (fun r h c => ?_) (Cert.RefInIdeal.Value.run m' g')
  obtain ⟨h0, h1, h2, h3, h4⟩ := h c
  obtain ⟨a0, a1, a2⟩ := hag c
  refine ⟨?_, ?_, h2, h3, h4⟩
  · rw [h0]
    unfold Cert.RefInIdeal.Value.res_main_v41
    rw [a0, a1, a2]
    rfl
  · rw [h1, a0, a1, a2]
    rfl

end
-- ==== Proof.MergeValue.lean ====
module

public import proofs.«01_k».proof.Proof.Gen.MergeIdeal.Value
public import proofs.«01_k».proof.Defs
public import proofs.«01_k».proof.Proof.Gen.RefMergeIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

theorem out_B (c : Dev nD) (i : grid0.Coords) (arg2 : Memref sig .tc .vmem S1024x512 .bf16) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x768x1024 .f32) (harg9 : arg9.IsWhole) (arg10 : Memref sig .tc .vmem S1x768x1024 .f32) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S768x1024 .bf16) (harg13 : arg13.IsWhole) (arg14 : Memref sig .tc .vmem S768x1024 .bf16) (harg14 : arg14.IsWhole) (hc0 : ¬cond0_0 i)
    (x0 : Vec Ideal S1024x512 .bf16) (x1 : Vec Ideal S1024x768 .bf16) (x2 : Vec Ideal S1024x768 .bf16) (x3 : Vec Ideal S1024x1024 .bf16) (x4 : Vec Ideal S1024x1024 .bf16) (x5 : Vec Ideal S1024x1024 .bf16) (x6 : Vec Ideal S1x512x1024 .f32) (x7 : Vec Ideal S1x768x1024 .f32) (x8 : Vec Ideal S1x768x1024 .f32) (xs0 : Vec Ideal S512x1024 .bf16) (xs1 : Vec Ideal S768x1024 .bf16) (xs2 : Vec Ideal S768x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 = k0_pay4 x3 x0 xs0 x4 x1 xs1 x5 x2 xs2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S1024x512) hz, View.ld_unit_zero (S := S1024x768) hz, View.ld_unit_zero (S := S1024x1024) hz, View.ld_unit_zero (S := S512x1024) hz, View.ld_unit_zero (S := S768x1024) hz]

theorem sout_A0 (c : Dev nD) (i : grid0.Coords) (arg2 : Memref sig .tc .vmem S1024x512 .bf16) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x768x1024 .f32) (harg9 : arg9.IsWhole) (arg10 : Memref sig .tc .vmem S1x768x1024 .f32) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S768x1024 .bf16) (harg13 : arg13.IsWhole) (arg14 : Memref sig .tc .vmem S768x1024 .bf16) (harg14 : arg14.IsWhole) (hc0 : cond0_0 i)
    (x0 : Vec Ideal S1024x512 .bf16) (x1 : Vec Ideal S1024x768 .bf16) (x2 : Vec Ideal S1024x768 .bf16) (x3 : Vec Ideal S1024x1024 .bf16) (x4 : Vec Ideal S1024x1024 .bf16) (x5 : Vec Ideal S1024x1024 .bf16) (x6 : Vec Ideal S1x512x1024 .f32) (x7 : Vec Ideal S1x768x1024 .f32) (x8 : Vec Ideal S1x768x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay1 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg8.read_unread, View.ld_unit_zero (S := S1x512x1024) hz3]

theorem sout_A1 (c : Dev nD) (i : grid0.Coords) (arg2 : Memref sig .tc .vmem S1024x512 .bf16) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x768x1024 .f32) (harg9 : arg9.IsWhole) (arg10 : Memref sig .tc .vmem S1x768x1024 .f32) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S768x1024 .bf16) (harg13 : arg13.IsWhole) (arg14 : Memref sig .tc .vmem S768x1024 .bf16) (harg14 : arg14.IsWhole) (hc0 : cond0_0 i)
    (x0 : Vec Ideal S1024x512 .bf16) (x1 : Vec Ideal S1024x768 .bf16) (x2 : Vec Ideal S1024x768 .bf16) (x3 : Vec Ideal S1024x1024 .bf16) (x4 : Vec Ideal S1024x1024 .bf16) (x5 : Vec Ideal S1024x1024 .bf16) (x6 : Vec Ideal S1x512x1024 .f32) (x7 : Vec Ideal S1x768x1024 .f32) (x8 : Vec Ideal S1x768x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg9.read_unread, View.ld_unit_zero (S := S1x768x1024) hz3]

theorem sout_A2 (c : Dev nD) (i : grid0.Coords) (arg2 : Memref sig .tc .vmem S1024x512 .bf16) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x768x1024 .f32) (harg9 : arg9.IsWhole) (arg10 : Memref sig .tc .vmem S1x768x1024 .f32) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S768x1024 .bf16) (harg13 : arg13.IsWhole) (arg14 : Memref sig .tc .vmem S768x1024 .bf16) (harg14 : arg14.IsWhole) (hc0 : cond0_0 i)
    (x0 : Vec Ideal S1024x512 .bf16) (x1 : Vec Ideal S1024x768 .bf16) (x2 : Vec Ideal S1024x768 .bf16) (x3 : Vec Ideal S1024x1024 .bf16) (x4 : Vec Ideal S1024x1024 .bf16) (x5 : Vec Ideal S1024x1024 .bf16) (x6 : Vec Ideal S1x512x1024 .f32) (x7 : Vec Ideal S1x768x1024 .f32) (x8 : Vec Ideal S1x768x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 x8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg10.read_unread, View.ld_unit_zero (S := S1x768x1024) hz3]

theorem out_A (c : Dev nD) (i : grid0.Coords) (arg2 : Memref sig .tc .vmem S1024x512 .bf16) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x768x1024 .f32) (harg9 : arg9.IsWhole) (arg10 : Memref sig .tc .vmem S1x768x1024 .f32) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S768x1024 .bf16) (harg13 : arg13.IsWhole) (arg14 : Memref sig .tc .vmem S768x1024 .bf16) (harg14 : arg14.IsWhole) (hc0 : cond0_0 i)
    (x0 : Vec Ideal S1024x512 .bf16) (x1 : Vec Ideal S1024x768 .bf16) (x2 : Vec Ideal S1024x768 .bf16) (x3 : Vec Ideal S1024x1024 .bf16) (x4 : Vec Ideal S1024x1024 .bf16) (x5 : Vec Ideal S1024x1024 .bf16) (x6 : Vec Ideal S1x512x1024 .f32) (x7 : Vec Ideal S1x768x1024 .f32) (x8 : Vec Ideal S1x768x1024 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay4 x3 x0 (k0_pay1 x6) x4 x1 (k0_pay2 x7) x5 x2 (k0_pay3 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz, View.readCov_unit_zero (S := S512x1024) _ hz, View.readCov_unit_zero (S := S768x1024) _ hz, View.readCov_unit_zero (S := S768x1024) _ hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x768) hz, View.ld_unit_zero (S := S1024x1024) hz, View.ld_unit_zero (S := S1x512x1024) hz3, View.ld_unit_zero (S := S1x768x1024) hz3]

/-! ## The arrays the region finds -/

theorem entry0 (c : Dev nD) : V (F := Ideal) m c main_v0 = shapeCast S8192x512 (m ((c.tc : Thread nD τ).loc main_arg0)) shapeCasts_S4x2048x512_S8192x512 := by
  unfold V hostOps0
  after_results <;> rfl

theorem entry1 (c : Dev nD) : V (F := Ideal) m c main_v1 = shapeCast S8192x768 (m ((c.tc : Thread nD τ).loc main_arg1)) shapeCasts_S4x2048x768_S8192x768 := by
  unfold V hostOps0
  after_results <;> rfl

theorem entry2 (c : Dev nD) : V (F := Ideal) m c main_v2 = shapeCast S8192x768 (m ((c.tc : Thread nD τ).loc main_arg2)) shapeCasts_S4x2048x768_S8192x768 := by
  unfold V hostOps0
  after_results <;> rfl

theorem entry3 (c : Dev nD) : V (F := Ideal) m c main_v3 = shapeCast S8192x6144 (m ((c.tc : Thread nD τ).loc main_arg3)) shapeCasts_S4x2048x6144_S8192x6144 := by
  unfold V hostOps0
  after_results <;> rfl

/-- The block indices at a grid point. -/
theorem idx_facts : ∀ t : Fin cfg0.N, win0_9.index t = ![t.val % 8, t.val / 8] ∧ win0_0.index t = ![t.val % 8, 0] ∧ win0_1.index t = ![t.val % 8, 0] ∧ win0_2.index t = ![t.val % 8, 0]
    ∧ win0_3.index t = ![t.val % 8, t.val / 8] ∧ win0_4.index t = ![t.val % 8, t.val / 8 + 2] ∧ win0_5.index t = ![t.val % 8, t.val / 8 + 4]
    ∧ win0_6.index t = ![0, 0, t.val / 8] ∧ win0_7.index t = ![0, 0, t.val / 8] ∧ win0_8.index t = ![0, 0, t.val / 8] :=
  (by decide +kernel : ∀ t : Fin grid0.N, _)

theorem blk0 (c : Dev nD) (t : Fin cfg0.N) (r : Fin 1024) (k : Fin 512) :
    iblk m c 0 t (ix2 r k) = shapeCast S8192x512 (m ((c.tc : Thread nD τ).loc main_arg0)) shapeCasts_S4x2048x512_S8192x512 (ix2 (⟨t.val % 8 * 1024 + r.val, by omega⟩ : Fin 8192) k) := by
  obtain ⟨e9, e0, e1, e2, e3, e4, e5, e6, e7, e8⟩ := idx_facts t
  have h : ((cfg0.win 0).blk t).view.emb (ix2 r k) = ix2 (⟨t.val % 8 * 1024 + r.val, by omega⟩ : Fin 8192) k := by
    blk_ext [e0]
  show V m c main_v0 (((cfg0.win 0).blk t).view.emb (ix2 r k)) = _
  rw [h, entry0]

theorem blk1 (c : Dev nD) (t : Fin cfg0.N) (r : Fin 1024) (k : Fin 768) :
    iblk m c 1 t (ix2 r k) = shapeCast S8192x768 (m ((c.tc : Thread nD τ).loc main_arg1)) shapeCasts_S4x2048x768_S8192x768 (ix2 (⟨t.val % 8 * 1024 + r.val, by omega⟩ : Fin 8192) k) := by
  obtain ⟨e9, e0, e1, e2, e3, e4, e5, e6, e7, e8⟩ := idx_facts t
  have h : ((cfg0.win 1).blk t).view.emb (ix2 r k) = ix2 (⟨t.val % 8 * 1024 + r.val, by omega⟩ : Fin 8192) k := by
    blk_ext [e1]
  show V m c main_v1 (((cfg0.win 1).blk t).view.emb (ix2 r k)) = _
  rw [h, entry1]

theorem blk2 (c : Dev nD) (t : Fin cfg0.N) (r : Fin 1024) (k : Fin 768) :
    iblk m c 2 t (ix2 r k) = shapeCast S8192x768 (m ((c.tc : Thread nD τ).loc main_arg2)) shapeCasts_S4x2048x768_S8192x768 (ix2 (⟨t.val % 8 * 1024 + r.val, by omega⟩ : Fin 8192) k) := by
  obtain ⟨e9, e0, e1, e2, e3, e4, e5, e6, e7, e8⟩ := idx_facts t
  have h : ((cfg0.win 2).blk t).view.emb (ix2 r k) = ix2 (⟨t.val % 8 * 1024 + r.val, by omega⟩ : Fin 8192) k := by
    blk_ext [e2]
  show V m c main_v2 (((cfg0.win 2).blk t).view.emb (ix2 r k)) = _
  rw [h, entry2]

theorem blk3 (c : Dev nD) (t : Fin cfg0.N) (r : Fin 1024) (q : Fin 1024) :
    iblk m c 3 t (ix2 r q) = shapeCast S8192x6144 (m ((c.tc : Thread nD τ).loc main_arg3)) shapeCasts_S4x2048x6144_S8192x6144 (ix2 (⟨t.val % 8 * 1024 + r.val, by omega⟩ : Fin 8192) (⟨0 + (t.val / 8 * 1024 + q.val), by have := t.isLt; have := lt_of_lt_of_eq this (show cfg0.N = 16 from N_0); omega⟩ : Fin 6144)) := by
  obtain ⟨e9, e0, e1, e2, e3, e4, e5, e6, e7, e8⟩ := idx_facts t
  have h : ((cfg0.win 3).blk t).view.emb (ix2 r q) = ix2 (⟨t.val % 8 * 1024 + r.val, by omega⟩ : Fin 8192) (⟨0 + (t.val / 8 * 1024 + q.val), by have := t.isLt; have := lt_of_lt_of_eq this (show cfg0.N = 16 from N_0); omega⟩ : Fin 6144) := by
    blk_ext [e3]
  show V m c main_v3 (((cfg0.win 3).blk t).view.emb (ix2 r q)) = _
  rw [h, entry3]

theorem blk4 (c : Dev nD) (t : Fin cfg0.N) (r : Fin 1024) (q : Fin 1024) :
    iblk m c 4 t (ix2 r q) = shapeCast S8192x6144 (m ((c.tc : Thread nD τ).loc main_arg3)) shapeCasts_S4x2048x6144_S8192x6144 (ix2 (⟨t.val % 8 * 1024 + r.val, by omega⟩ : Fin 8192) (⟨2048 + (t.val / 8 * 1024 + q.val), by have := t.isLt; have := lt_of_lt_of_eq this (show cfg0.N = 16 from N_0); omega⟩ : Fin 6144)) := by
  obtain ⟨e9, e0, e1, e2, e3, e4, e5, e6, e7, e8⟩ := idx_facts t
  have h : ((cfg0.win 4).blk t).view.emb (ix2 r q) = ix2 (⟨t.val % 8 * 1024 + r.val, by omega⟩ : Fin 8192) (⟨2048 + (t.val / 8 * 1024 + q.val), by have := t.isLt; have := lt_of_lt_of_eq this (show cfg0.N = 16 from N_0); omega⟩ : Fin 6144) := by
    blk_ext [e4]
  show V m c main_v3 (((cfg0.win 4).blk t).view.emb (ix2 r q)) = _
  rw [h, entry3]

theorem blk5 (c : Dev nD) (t : Fin cfg0.N) (r : Fin 1024) (q : Fin 1024) :
    iblk m c 5 t (ix2 r q) = shapeCast S8192x6144 (m ((c.tc : Thread nD τ).loc main_arg3)) shapeCasts_S4x2048x6144_S8192x6144 (ix2 (⟨t.val % 8 * 1024 + r.val, by omega⟩ : Fin 8192) (⟨4096 + (t.val / 8 * 1024 + q.val), by have := t.isLt; have := lt_of_lt_of_eq this (show cfg0.N = 16 from N_0); omega⟩ : Fin 6144)) := by
  obtain ⟨e9, e0, e1, e2, e3, e4, e5, e6, e7, e8⟩ := idx_facts t
  have h : ((cfg0.win 5).blk t).view.emb (ix2 r q) = ix2 (⟨t.val % 8 * 1024 + r.val, by omega⟩ : Fin 8192) (⟨4096 + (t.val / 8 * 1024 + q.val), by have := t.isLt; have := lt_of_lt_of_eq this (show cfg0.N = 16 from N_0); omega⟩ : Fin 6144) := by
    blk_ext [e5]
  show V m c main_v3 (((cfg0.win 5).blk t).view.emb (ix2 r q)) = _
  rw [h, entry3]

theorem blk6 (c : Dev nD) (t : Fin cfg0.N) (k : Fin 512) (q : Fin 1024) :
    iblk m c 6 t (ix3 0 k q) = m ((c.tc : Thread nD τ).loc main_arg4) (ix3 0 k (⟨t.val / 8 * 1024 + q.val, by have := t.isLt; have := lt_of_lt_of_eq this (show cfg0.N = 16 from N_0); omega⟩ : Fin 2048)) := by
  obtain ⟨e9, e0, e1, e2, e3, e4, e5, e6, e7, e8⟩ := idx_facts t
  have h : ((cfg0.win 6).blk t).view.emb (ix3 0 k q) = ix3 (0 : Fin 2) k (⟨t.val / 8 * 1024 + q.val, by have := t.isLt; have := lt_of_lt_of_eq this (show cfg0.N = 16 from N_0); omega⟩ : Fin 2048) := by
    blk_ext [e6]
  show V m c main_arg4 (((cfg0.win 6).blk t).view.emb (ix3 0 k q)) = _
  rw [h, V_main_arg4]

theorem pay1_apply (x : Vec Ideal S1x512x1024 .f32) (k : Fin 512) (q : Fin 1024) : k0_pay1 x (ix2 k q) = x (ix3 0 k q) := by
  pointwise [k0_pay1]

/-- Two neighbouring points of one sweep over the rows read the same weight block. -/
theorem pay1_succ (c : Dev nD) (n : ℕ) (hn : n + 1 < cfg0.N) (h : ¬(n + 1) % 8 = 0) :
    k0_pay1 (iblk m c 6 ⟨n, Nat.lt_of_succ_lt hn⟩) = k0_pay1 (iblk m c 6 ⟨n + 1, hn⟩) := by
  have e : n / 8 = (n + 1) / 8 := by omega
  funext j
  obtain ⟨k, q, rfl⟩ : ∃ (k : Fin 512) (q : Fin 1024), j = ix2 k q := ⟨j 0, j 1, eq_ix2 j⟩
  rw [pay1_apply, pay1_apply, blk6, blk6]
  simp only [e]

theorem blk7 (c : Dev nD) (t : Fin cfg0.N) (k : Fin 768) (q : Fin 1024) :
    iblk m c 7 t (ix3 0 k q) = m ((c.tc : Thread nD τ).loc main_arg5) (ix3 0 k (⟨t.val / 8 * 1024 + q.val, by have := t.isLt; have := lt_of_lt_of_eq this (show cfg0.N = 16 from N_0); omega⟩ : Fin 2048)) := by
  obtain ⟨e9, e0, e1, e2, e3, e4, e5, e6, e7, e8⟩ := idx_facts t
  have h : ((cfg0.win 7).blk t).view.emb (ix3 0 k q) = ix3 (0 : Fin 2) k (⟨t.val / 8 * 1024 + q.val, by have := t.isLt; have := lt_of_lt_of_eq this (show cfg0.N = 16 from N_0); omega⟩ : Fin 2048) := by
    blk_ext [e7]
  show V m c main_arg5 (((cfg0.win 7).blk t).view.emb (ix3 0 k q)) = _
  rw [h, V_main_arg5]

theorem pay2_apply (x : Vec Ideal S1x768x1024 .f32) (k : Fin 768) (q : Fin 1024) : k0_pay2 x (ix2 k q) = x (ix3 0 k q) := by
  pointwise [k0_pay2]

/-- Two neighbouring points of one sweep over the rows read the same weight block. -/
theorem pay2_succ (c : Dev nD) (n : ℕ) (hn : n + 1 < cfg0.N) (h : ¬(n + 1) % 8 = 0) :
    k0_pay2 (iblk m c 7 ⟨n, Nat.lt_of_succ_lt hn⟩) = k0_pay2 (iblk m c 7 ⟨n + 1, hn⟩) := by
  have e : n / 8 = (n + 1) / 8 := by omega
  funext j
  obtain ⟨k, q, rfl⟩ : ∃ (k : Fin 768) (q : Fin 1024), j = ix2 k q := ⟨j 0, j 1, eq_ix2 j⟩
  rw [pay2_apply, pay2_apply, blk7, blk7]
  simp only [e]

theorem blk8 (c : Dev nD) (t : Fin cfg0.N) (k : Fin 768) (q : Fin 1024) :
    iblk m c 8 t (ix3 0 k q) = m ((c.tc : Thread nD τ).loc main_arg6) (ix3 0 k (⟨t.val / 8 * 1024 + q.val, by have := t.isLt; have := lt_of_lt_of_eq this (show cfg0.N = 16 from N_0); omega⟩ : Fin 2048)) := by
  obtain ⟨e9, e0, e1, e2, e3, e4, e5, e6, e7, e8⟩ := idx_facts t
  have h : ((cfg0.win 8).blk t).view.emb (ix3 0 k q) = ix3 (0 : Fin 2) k (⟨t.val / 8 * 1024 + q.val, by have := t.isLt; have := lt_of_lt_of_eq this (show cfg0.N = 16 from N_0); omega⟩ : Fin 2048) := by
    blk_ext [e8]
  show V m c main_arg6 (((cfg0.win 8).blk t).view.emb (ix3 0 k q)) = _
  rw [h, V_main_arg6]

theorem pay3_apply (x : Vec Ideal S1x768x1024 .f32) (k : Fin 768) (q : Fin 1024) : k0_pay3 x (ix2 k q) = x (ix3 0 k q) := by
  pointwise [k0_pay3]

/-- Two neighbouring points of one sweep over the rows read the same weight block. -/
theorem pay3_succ (c : Dev nD) (n : ℕ) (hn : n + 1 < cfg0.N) (h : ¬(n + 1) % 8 = 0) :
    k0_pay3 (iblk m c 8 ⟨n, Nat.lt_of_succ_lt hn⟩) = k0_pay3 (iblk m c 8 ⟨n + 1, hn⟩) := by
  have e : n / 8 = (n + 1) / 8 := by omega
  funext j
  obtain ⟨k, q, rfl⟩ : ∃ (k : Fin 768) (q : Fin 1024), j = ix2 k q := ⟨j 0, j 1, eq_ix2 j⟩
  rw [pay3_apply, pay3_apply, blk8, blk8]
  simp only [e]

/-- After every point: the output block is the payload of the point's own blocks, the carried weights are the point's own weight blocks. -/
theorem state_eq (c : Dev nD) : ∀ (n : ℕ) (h : n < cfg0.N), outsAt0 m c n h
    = (k0_pay4 (iblk m c 3 ⟨n, h⟩) (iblk m c 0 ⟨n, h⟩) (k0_pay1 (iblk m c 6 ⟨n, h⟩)) (iblk m c 4 ⟨n, h⟩) (iblk m c 1 ⟨n, h⟩) (k0_pay2 (iblk m c 7 ⟨n, h⟩)) (iblk m c 5 ⟨n, h⟩) (iblk m c 2 ⟨n, h⟩) (k0_pay3 (iblk m c 8 ⟨n, h⟩)), k0_pay1 (iblk m c 6 ⟨n, h⟩), k0_pay2 (iblk m c 7 ⟨n, h⟩), k0_pay3 (iblk m c 8 ⟨n, h⟩))
  | 0, h => by
    refine (outsAt0_A m c ⟨0, h⟩ rfl).trans ?_
    rw [out_A, sout_A0, sout_A1, sout_A2]
  | n + 1, h => by
    by_cases h0 : (n + 1) % 8 = 0
    · refine (outsAt0_A m c ⟨n + 1, h⟩ h0).trans ?_
      rw [out_A, sout_A0, sout_A1, sout_A2]
    · refine (outsAt0_B m c ⟨n + 1, h⟩ h0).trans ?_
      have ih := state_eq c n (Nat.lt_of_succ_lt h)
      show (out0_B_9 c _ _ _ _ _ _ _ _ _ _ _ _ _ _ _ _ _ _ _ _ _ _ _ _ _ _ _ _ _ _ _ _ _ _ _ _ _ (outsAt0 m c n (Nat.lt_of_succ_lt h)).2.1 (outsAt0 m c n (Nat.lt_of_succ_lt h)).2.2.1 (outsAt0 m c n (Nat.lt_of_succ_lt h)).2.2.2, (outsAt0 m c n (Nat.lt_of_succ_lt h)).2.1, (outsAt0 m c n (Nat.lt_of_succ_lt h)).2.2.1, (outsAt0 m c n (Nat.lt_of_succ_lt h)).2.2.2) = _
      rw [out_B, ih]
      dsimp only
      rw [pay1_succ m c n h h0, pay2_succ m c n h h0, pay3_succ m c n h h0]

/-! ## The result -/

/-- What the reference computes, as one function of the arguments. -/
def res (a0 : FVec Ideal S4x2048x512 .bf16) (a1 : FVec Ideal S4x2048x768 .bf16) (a2 : FVec Ideal S4x2048x768 .bf16) (a3 : FVec Ideal S4x2048x6144 .bf16) (a4 : FVec Ideal S2x512x2048 .f32) (a5 : FVec Ideal S2x768x2048 .f32) (a6 : FVec Ideal S2x768x2048 .f32) : FVec Ideal S8192x2048 .bf16 :=
  truncf .bf16 (shapeCast _ (addf (addf (mulf (shapeCast _ (extractStridedSlice Cert.RefMergeIdeal.S4x2048x1x2048 ![0, 0, 0, 0] (shapeCast _ (extf .f32 a3 Cert.RefMergeIdeal.Gen.bitsLt_bf16_f32) Cert.RefMergeIdeal.Gen.shapeCasts_S4x2048x6144_S4x2048x3x2048) Cert.RefMergeIdeal.Gen.slices_S4x2048x3x2048_S4x2048x1x2048_0_0_0_0) Cert.RefMergeIdeal.Gen.shapeCasts_S4x2048x1x2048_S4x2048x2048) (Host.dotGeneral Cert.RefMergeIdeal.dot_S4x2048x512_S512x2048_S4x2048x2048_2_0_01_1_n_n none (extf .f32 a0 Cert.RefMergeIdeal.Gen.bitsLt_bf16_f32) (shapeCast _ (extractStridedSlice Cert.RefMergeIdeal.S1x512x2048 ![0, 0, 0] a4 Cert.RefMergeIdeal.Gen.slices_S2x512x2048_S1x512x2048_0_0_0) Cert.RefMergeIdeal.Gen.shapeCasts_S1x512x2048_S512x2048))) (mulf (shapeCast _ (extractStridedSlice Cert.RefMergeIdeal.S4x2048x1x2048 ![0, 0, 1, 0] (shapeCast _ (extf .f32 a3 Cert.RefMergeIdeal.Gen.bitsLt_bf16_f32) Cert.RefMergeIdeal.Gen.shapeCasts_S4x2048x6144_S4x2048x3x2048) Cert.RefMergeIdeal.Gen.slices_S4x2048x3x2048_S4x2048x1x2048_0_0_1_0) Cert.RefMergeIdeal.Gen.shapeCasts_S4x2048x1x2048_S4x2048x2048) (Host.dotGeneral Cert.RefMergeIdeal.dot_S4x2048x768_S768x2048_S4x2048x2048_2_0_01_1_n_n none (extf .f32 a1 Cert.RefMergeIdeal.Gen.bitsLt_bf16_f32) (shapeCast _ (extractStridedSlice Cert.RefMergeIdeal.S1x768x2048 ![0, 0, 0] a5 Cert.RefMergeIdeal.Gen.slices_S2x768x2048_S1x768x2048_0_0_0) Cert.RefMergeIdeal.Gen.shapeCasts_S1x768x2048_S768x2048)))) (mulf (shapeCast _ (extractStridedSlice Cert.RefMergeIdeal.S4x2048x1x2048 ![0, 0, 2, 0] (shapeCast _ (extf .f32 a3 Cert.RefMergeIdeal.Gen.bitsLt_bf16_f32) Cert.RefMergeIdeal.Gen.shapeCasts_S4x2048x6144_S4x2048x3x2048) Cert.RefMergeIdeal.Gen.slices_S4x2048x3x2048_S4x2048x1x2048_0_0_2_0) Cert.RefMergeIdeal.Gen.shapeCasts_S4x2048x1x2048_S4x2048x2048) (Host.dotGeneral Cert.RefMergeIdeal.dot_S4x2048x768_S768x2048_S4x2048x2048_2_0_01_1_n_n none (extf .f32 a2 Cert.RefMergeIdeal.Gen.bitsLt_bf16_f32) (shapeCast _ (extractStridedSlice Cert.RefMergeIdeal.S1x768x2048 ![0, 0, 0] a6 Cert.RefMergeIdeal.Gen.slices_S2x768x2048_S1x768x2048_0_0_0) Cert.RefMergeIdeal.Gen.shapeCasts_S1x768x2048_S768x2048)))) Cert.RefMergeIdeal.Gen.shapeCasts_S4x2048x2048_S8192x2048) Cert.RefMergeIdeal.Gen.bitsLt_bf16_f32

theorem res_apply (a0 : FVec Ideal S4x2048x512 .bf16) (a1 : FVec Ideal S4x2048x768 .bf16) (a2 : FVec Ideal S4x2048x768 .bf16) (a3 : FVec Ideal S4x2048x6144 .bf16) (a4 : FVec Ideal S2x512x2048 .f32) (a5 : FVec Ideal S2x768x2048 .f32) (a6 : FVec Ideal S2x768x2048 .f32) (r : Fin 8192) (q : Fin 2048) :
    res a0 a1 a2 a3 a4 a5 a6 (ix2 r q) = shapeCast S8192x6144 a3 shapeCasts_S4x2048x6144_S8192x6144 (ix2 r ⟨0 + q.val, by omega⟩) * (∑ k : Fin 512, shapeCast S8192x512 a0 shapeCasts_S4x2048x512_S8192x512 (ix2 r k) * a4 (ix3 0 k q)) + shapeCast S8192x6144 a3 shapeCasts_S4x2048x6144_S8192x6144 (ix2 r ⟨2048 + q.val, by omega⟩) * (∑ k : Fin 768, shapeCast S8192x768 a1 shapeCasts_S4x2048x768_S8192x768 (ix2 r k) * a5 (ix3 0 k q)) + shapeCast S8192x6144 a3 shapeCasts_S4x2048x6144_S8192x6144 (ix2 r ⟨4096 + q.val, by omega⟩) * (∑ k : Fin 768, shapeCast S8192x768 a2 shapeCasts_S4x2048x768_S8192x768 (ix2 r k) * a6 (ix3 0 k q)) := by
  unfold res
  pointwise

theorem pay4_apply (x3 : Vec Ideal S1024x1024 .bf16) (x0 : Vec Ideal S1024x512 .bf16) (w0 : Vec Ideal S512x1024 .bf16) (x4 : Vec Ideal S1024x1024 .bf16) (x1 : Vec Ideal S1024x768 .bf16) (w1 : Vec Ideal S768x1024 .bf16) (x5 : Vec Ideal S1024x1024 .bf16) (x2 : Vec Ideal S1024x768 .bf16) (w2 : Vec Ideal S768x1024 .bf16) (r : Fin 1024) (q : Fin 1024) :
    k0_pay4 x3 x0 w0 x4 x1 w1 x5 x2 w2 (ix2 r q) = x3 (ix2 r q) * (∑ k : Fin 512, x0 (ix2 r k) * w0 (ix2 k q)) + x4 (ix2 r q) * (∑ k : Fin 768, x1 (ix2 r k) * w1 (ix2 k q)) + x5 (ix2 r q) * (∑ k : Fin 768, x2 (ix2 r k) * w2 (ix2 k q)) := by
  pointwise [k0_pay4]

/-- The result array as the reference's function of the arguments. -/
def result (c : Dev nD) : Buf (Elt Ideal) ((c.tc : Thread nD τ).loc main_v4) := res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem covers : (cfg0.win 9).Covers := by decide +kernel

theorem after_apply (c : Dev nD) (t : Fin cfg0.N) (r : Fin 1024) (q : Fin 1024) : (dats m 0 c).after 9 t (ix2 r q) = k0_pay4 (iblk m c 3 t) (iblk m c 0 t) (k0_pay1 (iblk m c 6 t)) (iblk m c 4 t) (iblk m c 1 t) (k0_pay2 (iblk m c 7 t)) (iblk m c 5 t) (iblk m c 2 t) (k0_pay3 (iblk m c 8 t)) (ix2 r q) := by
  rw [after0_9, state_eq]

theorem point (c : Dev nD) (t : Fin cfg0.N) (y : ((cfg0.win 9).xblock (cfg0.grid.coords t)).Idx) : (dats m 0 c).after 9 t y = result m c (((cfg0.win 9).blk t).view.emb y) := by
  obtain ⟨r, q, rfl⟩ : ∃ (r : Fin 1024) (q : Fin 1024), y = ix2 r q := ⟨y 0, y 1, eq_ix2 y⟩
  obtain ⟨e9, e0, e1, e2, e3, e4, e5, e6, e7, e8⟩ := idx_facts t
  have h : ((cfg0.win 9).blk t).view.emb (ix2 r q) = ix2 (⟨t.val % 8 * 1024 + r.val, by omega⟩ : Fin 8192) (⟨t.val / 8 * 1024 + q.val, by have := t.isLt; have := lt_of_lt_of_eq this (show cfg0.N = 16 from N_0); omega⟩ : Fin 2048) := by
    blk_ext [e9]
  rw [h]
  refine (after_apply m c t r q).trans ?_
  unfold result
  rw [res_apply, pay4_apply]
  simp only [pay1_apply, pay2_apply, pay3_apply, blk0, blk1, blk2, blk3, blk4, blk5, blk6, blk7, blk8]

/-- What the region leaves in the result array is the reference's function of the arguments. -/
theorem final (c : Dev nD) : (dats m 0 c).arrAt 9 cfg0.N = result m c :=
  (dats m 0 c).arrAt_eq_of_covers 9 _ covers fun t hf y => point m c t y

theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final m c), (h c).2⟩) (Value.run_blocks m ρ)

end Cert.MergeIdeal.RefValue

open Idealize.ShloMosaic Idealize.ShloMosaic.TcCoe Idealize.SL.Sem in
/-- The gated merge of the branches and its reference leave equal results. -/
theorem Cert.Proof.merge_algebraic : Cert.algebraic_MergeIdeal_RefMergeIdeal := by
  intro m g m' g' _ hag
  refine ⟨Cert.MergeIdeal.RefValue.result m, Cert.MergeIdeal.RefValue.run m g, ?_⟩
  refine (θ_run _ _ _).mono (fun r h c => ?_) (Cert.RefMergeIdeal.Value.run m' g')
  obtain ⟨h0, h1, h2, h3, h4, h5, h6, h7⟩ := h c
  obtain ⟨a0, a1, a2, a3, a4, a5, a6⟩ := hag c
  refine ⟨?_, h1, h2, h3, h4, h5, h6, h7⟩
  · rw [h0, a0, a1, a2, a3, a4, a5, a6]
    rfl

end
-- ==== Proof.OutValue.lean ====
module

public import proofs.«01_k».proof.Proof.Gen.OutProjIdeal.Value
public import proofs.«01_k».proof.Defs
public import proofs.«01_k».proof.Proof.Gen.RefOutIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.OutProjIdeal.RefValue

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

theorem out_B4 (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (hc0 : ¬cond0_0 i)
    (x0 : Vec Ideal S512x2048 .bf16) (x1 : Vec Ideal S1x2048x2048 .f32) (x2 : Vec Ideal S512x2048 .f32) (x3 : Vec Ideal S1x2048 .f32) (xs0 : Vec Ideal S2048x2048 .bf16) :
    out0_B_4 c i arg1 harg1 arg2 harg2 arg3 harg3 arg4 harg4 arg5 harg5 arg6 harg6 arg7 harg7 hc0 x0 x1 x2 x3 xs0 = k0_pay2 x2 x0 xs0 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg1.read_unread, harg3.read_unread, harg7.read_unread, View.ld_unit_zero (S := S512x2048) hz, View.ld_unit_zero (S := S2048x2048) hz]

theorem out_B5 (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (hc0 : ¬cond0_0 i)
    (x0 : Vec Ideal S512x2048 .bf16) (x1 : Vec Ideal S1x2048x2048 .f32) (x2 : Vec Ideal S512x2048 .f32) (x3 : Vec Ideal S1x2048 .f32) (xs0 : Vec Ideal S2048x2048 .bf16) :
    out0_B_5 c i arg1 harg1 arg2 harg2 arg3 harg3 arg4 harg4 arg5 harg5 arg6 harg6 arg7 harg7 hc0 x0 x1 x2 x3 xs0 = k0_pay3 x2 x0 xs0 x3 := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg1.read_unread, harg3.read_unread, harg4.read_unread, harg7.read_unread, View.ld_unit_zero (S := S512x2048) hz, View.ld_unit_zero (S := S2048x2048) hz, View.ld_unit_zero (S := S1x2048) hz]

theorem sout_A (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    sout0_A_0 c i arg1 harg1 arg2 harg2 arg3 harg3 arg4 harg4 arg5 harg5 arg6 harg6 arg7 harg7 hc0 x0 x1 x2 x3 = k0_pay1 x1 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, View.ld_unit_zero (S := S1x2048x2048) hz3]

theorem out_A4 (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    out0_A_4 c i arg1 harg1 arg2 harg2 arg3 harg3 arg4 harg4 arg5 harg5 arg6 harg6 arg7 harg7 hc0 x0 x1 x2 x3 = k0_pay2 x2 x0 (k0_pay1 x1) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz, View.readCov_unit_zero (S := S2048x2048) _ hz]
  simp only [View.readAt_eq_ld, harg1.read_unread, harg2.read_unread, harg3.read_unread, View.ld_unit_zero (S := S512x2048) hz, View.ld_unit_zero (S := S1x2048x2048) hz3]

theorem out_A5 (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (hc0 : cond0_0 i)
    (x0 : Vec Ideal S512x2048 .bf16) (x1 : Vec Ideal S1x2048x2048 .f32) (x2 : Vec Ideal S512x2048 .f32) (x3 : Vec Ideal S1x2048 .f32) :
    out0_A_5 c i arg1 harg1 arg2 harg2 arg3 harg3 arg4 harg4 arg5 harg5 arg6 harg6 arg7 harg7 hc0 x0 x1 x2 x3 = k0_pay3 x2 x0 (k0_pay1 x1) x3 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero hz, View.readCov_unit_zero (S := S2048x2048) _ hz]
  simp only [View.readAt_eq_ld, harg1.read_unread, harg2.read_unread, harg3.read_unread, harg4.read_unread, View.ld_unit_zero (S := S512x2048) hz, View.ld_unit_zero (S := S1x2048x2048) hz3, View.ld_unit_zero (S := S1x2048) hz]

/-! ## The arrays the region finds -/

theorem rows_entry (c : Dev nD) : V (F := Ideal) m c main_v0 = shapeCast S8192x2048 (m ((c.tc : Thread nD τ).loc main_arg0)) shapeCasts_S4x2048x2048_S8192x2048 := by
  unfold V hostOps0
  after_results <;> rfl

theorem resid_entry (c : Dev nD) : V (F := Ideal) m c main_v1 = shapeCast S8192x2048 (m ((c.tc : Thread nD τ).loc main_arg2)) shapeCasts_S4x2048x2048_S8192x2048 := by
  unfold V hostOps0
  after_results <;> rfl

theorem gain_entry (c : Dev nD) : V (F := Ideal) m c main_v4 = shapeCast S1x2048 (shapeCast S2048 (extractStridedSlice S1x2048 ![0, 0] (m ((c.tc : Thread nD τ).loc main_arg3)) slices_S2x2048_S1x2048_0_0) shapeCasts_S1x2048_S2048) shapeCasts_S2048_S1x2048 := by
  unfold V hostOps0
  after_results <;> rfl

/-- The block indices at a grid point. -/
theorem idx_facts : ∀ t : Fin cfg0.N, win0_4.index t = ![t.val, 0] ∧ win0_5.index t = ![t.val, 0] ∧ win0_0.index t = ![t.val, 0]
    ∧ win0_1.index t = ![0, 0, 0] ∧ win0_2.index t = ![t.val, 0] ∧ win0_3.index t = ![0, 0] :=
  (by decide +kernel : ∀ t : Fin grid0.N, _)

theorem blk0 (c : Dev nD) (t : Fin cfg0.N) (r : Fin 512) (k : Fin 2048) :
    iblk m c 0 t (ix2 r k) = shapeCast S8192x2048 (m ((c.tc : Thread nD τ).loc main_arg0)) shapeCasts_S4x2048x2048_S8192x2048 (ix2 (⟨t.val * 512 + r.val, by have := t.isLt; have := lt_of_lt_of_eq this (show cfg0.N = 16 from N_0); omega⟩ : Fin 8192) k) := by
  obtain ⟨e4, e5, e0, e1, e2, e3⟩ := idx_facts t
  have h : ((cfg0.win 0).blk t).view.emb (ix2 r k) = ix2 (⟨t.val * 512 + r.val, by have := t.isLt; have := lt_of_lt_of_eq this (show cfg0.N = 16 from N_0); omega⟩ : Fin 8192) k := by
    blk_ext [e0]
  show V m c main_v0 (((cfg0.win 0).blk t).view.emb (ix2 r k)) = _
  rw [h, rows_entry]

theorem blk1 (c : Dev nD) (t : Fin cfg0.N) (k : Fin 2048) (q : Fin 2048) :
    iblk m c 1 t (ix3 0 k q) = m ((c.tc : Thread nD τ).loc main_arg1) (ix3 0 k q) := by
  obtain ⟨e4, e5, e0, e1, e2, e3⟩ := idx_facts t
  have h : ((cfg0.win 1).blk t).view.emb (ix3 0 k q) = ix3 (0 : Fin 2) k q := by
    blk_ext [e1]
  show V m c main_arg1 (((cfg0.win 1).blk t).view.emb (ix3 0 k q)) = _
  rw [h, V_main_arg1]

theorem blk2 (c : Dev nD) (t : Fin cfg0.N) (r : Fin 512) (k : Fin 2048) :
    iblk m c 2 t (ix2 r k) = shapeCast S8192x2048 (m ((c.tc : Thread nD τ).loc main_arg2)) shapeCasts_S4x2048x2048_S8192x2048 (ix2 (⟨t.val * 512 + r.val, by have := t.isLt; have := lt_of_lt_of_eq this (show cfg0.N = 16 from N_0); omega⟩ : Fin 8192) k) := by
  obtain ⟨e4, e5, e0, e1, e2, e3⟩ := idx_facts t
  have h : ((cfg0.win 2).blk t).view.emb (ix2 r k) = ix2 (⟨t.val * 512 + r.val, by have := t.isLt; have := lt_of_lt_of_eq this (show cfg0.N = 16 from N_0); omega⟩ : Fin 8192) k := by
    blk_ext [e2]
  show V m c main_v1 (((cfg0.win 2).blk t).view.emb (ix2 r k)) = _
  rw [h, resid_entry]

theorem blk3 (c : Dev nD) (t : Fin cfg0.N) (q : Fin 2048) :
    iblk m c 3 t (ix2 0 q) = m ((c.tc : Thread nD τ).loc main_arg3) (ix2 0 q) := by
  obtain ⟨e4, e5, e0, e1, e2, e3⟩ := idx_facts t
  have h : ((cfg0.win 3).blk t).view.emb (ix2 0 q) = ix2 (0 : Fin 1) q := by
    blk_ext [e3]
  show V m c main_v4 (((cfg0.win 3).blk t).view.emb (ix2 0 q)) = _
  rw [h, gain_entry]
  pointwise

theorem pay1_apply (x : Vec Ideal S1x2048x2048 .f32) (k : Fin 2048) (q : Fin 2048) : k0_pay1 x (ix2 k q) = x (ix3 0 k q) := by
  pointwise [k0_pay1]

/-- Every point reads the same weight block. -/
theorem pay1_succ (c : Dev nD) (n : ℕ) (hn : n + 1 < cfg0.N) :
    k0_pay1 (iblk m c 1 ⟨n, Nat.lt_of_succ_lt hn⟩) = k0_pay1 (iblk m c 1 ⟨n + 1, hn⟩) := by
  funext j
  obtain ⟨k, q, rfl⟩ : ∃ (k : Fin 2048) (q : Fin 2048), j = ix2 k q := ⟨j 0, j 1, eq_ix2 j⟩
  rw [pay1_apply, pay1_apply, blk1, blk1]

/-- After every point: the output blocks are the payloads of the point's own blocks, the carried weights those of the layer. -/
theorem state_eq (c : Dev nD) : ∀ (n : ℕ) (h : n < cfg0.N), outsAt0 m c n h
    = (k0_pay2 (iblk m c 2 ⟨n, h⟩) (iblk m c 0 ⟨n, h⟩) (k0_pay1 (iblk m c 1 ⟨n, h⟩)), k0_pay3 (iblk m c 2 ⟨n, h⟩) (iblk m c 0 ⟨n, h⟩) (k0_pay1 (iblk m c 1 ⟨n, h⟩)) (iblk m c 3 ⟨n, h⟩), k0_pay1 (iblk m c 1 ⟨n, h⟩))
  | 0, h => by
    refine (outsAt0_A m c ⟨0, h⟩ rfl).trans ?_
    rw [out_A4, out_A5, sout_A]
  | n + 1, h => by
    refine (outsAt0_B m c ⟨n + 1, h⟩ (by have : n + 1 < 16 := lt_of_lt_of_eq h (show cfg0.N = 16 from N_0); dsimp only; omega)).trans ?_
    have ih := state_eq c n (Nat.lt_of_succ_lt h)
    show (out0_B_4 c _ _ _ _ _ _ _ _ _ _ _ _ _ _ _ _ _ _ _ _ (outsAt0 m c n (Nat.lt_of_succ_lt h)).2.2, out0_B_5 c _ _ _ _ _ _ _ _ _ _ _ _ _ _ _ _ _ _ _ _ (outsAt0 m c n (Nat.lt_of_succ_lt h)).2.2, (outsAt0 m c n (Nat.lt_of_succ_lt h)).2.2) = _
    rw [out_B4, out_B5, ih]
    dsimp only
    rw [pay1_succ m c n h]

/-! ## The results -/

/-- What the reference computes first: the residual and the projection of the merged branches. -/
def res (a : FVec Ideal S4x2048x2048 .bf16) (w : FVec Ideal S2x2048x2048 .f32) (x : FVec Ideal S4x2048x2048 .f32) : FVec Ideal S8192x2048 .f32 :=
  shapeCast _ (addf x (Host.dotGeneral Cert.RefOutIdeal.dot_S4x2048x2048_S2048x2048_S4x2048x2048_2_0_01_1_n_n none (extf .f32 a bitsLt_bf16_f32) (shapeCast _ (extractStridedSlice S1x2048x2048 ![0, 0, 0] w Cert.RefOutIdeal.Gen.slices_S2x2048x2048_S1x2048x2048_0_0_0) Cert.RefOutIdeal.Gen.shapeCasts_S1x2048x2048_S2048x2048))) shapeCasts_S4x2048x2048_S8192x2048

/-- What the reference computes second: the first result's rows normalised. -/
def res2 (a : FVec Ideal S4x2048x2048 .bf16) (w : FVec Ideal S2x2048x2048 .f32) (x : FVec Ideal S4x2048x2048 .f32) (g : FVec Ideal S2x2048 .f32) : FVec Ideal S8192x2048 .bf16 :=
  truncf .bf16 (shapeCast _ (mulf (mulf (addf x (Host.dotGeneral Cert.RefOutIdeal.dot_S4x2048x2048_S2048x2048_S4x2048x2048_2_0_01_1_n_n none (extf .f32 a bitsLt_bf16_f32) (shapeCast _ (extractStridedSlice S1x2048x2048 ![0, 0, 0] w Cert.RefOutIdeal.Gen.slices_S2x2048x2048_S1x2048x2048_0_0_0) Cert.RefOutIdeal.Gen.shapeCasts_S1x2048x2048_S2048x2048))) (broadcastInDim S4x2048x2048 ![0, 1, 2] Cert.RefOutIdeal.Gen.bcast_S4x2048x1_S4x2048x2048_0_1_2 (Host.rsqrt (addf (Host.divf (broadcastInDim Cert.RefOutIdeal.S4x2048x1 ![0, 1] Cert.RefOutIdeal.Gen.bcast_S4x2048_S4x2048x1_0_1 (Host.reduceAdd (mulf (addf x (Host.dotGeneral Cert.RefOutIdeal.dot_S4x2048x2048_S2048x2048_S4x2048x2048_2_0_01_1_n_n none (extf .f32 a bitsLt_bf16_f32) (shapeCast _ (extractStridedSlice S1x2048x2048 ![0, 0, 0] w Cert.RefOutIdeal.Gen.slices_S2x2048x2048_S1x2048x2048_0_0_0) Cert.RefOutIdeal.Gen.shapeCasts_S1x2048x2048_S2048x2048))) (addf x (Host.dotGeneral Cert.RefOutIdeal.dot_S4x2048x2048_S2048x2048_S4x2048x2048_2_0_01_1_n_n none (extf .f32 a bitsLt_bf16_f32) (shapeCast _ (extractStridedSlice S1x2048x2048 ![0, 0, 0] w Cert.RefOutIdeal.Gen.slices_S2x2048x2048_S1x2048x2048_0_0_0) Cert.RefOutIdeal.Gen.shapeCasts_S1x2048x2048_S2048x2048)))) (constant Cert.RefOutIdeal.S_ .f32 0x00000000#32) Cert.RefOutIdeal.Gen.reducesTo_S4x2048x2048_S4x2048_d2 Cert.RefOutIdeal.Gen.h_S_)) (broadcastInDim Cert.RefOutIdeal.S4x2048x1 ![] Cert.RefOutIdeal.Gen.bcast_S_S4x2048x1 (constant Cert.RefOutIdeal.S_ .f32 0x45000000#32))) (broadcastInDim Cert.RefOutIdeal.S4x2048x1 ![] Cert.RefOutIdeal.Gen.bcast_S_S4x2048x1 (constant Cert.RefOutIdeal.S_ .f32 0x358637BD#32)))))) (broadcastInDim S4x2048x2048 ![0, 1, 2] Cert.RefOutIdeal.Gen.bcast_S1x1x2048_S4x2048x2048_0_1_2 (broadcastInDim Cert.RefOutIdeal.S1x1x2048 ![2] Cert.RefOutIdeal.Gen.bcast_S2048_S1x1x2048_2 (shapeCast _ (extractStridedSlice S1x2048 ![0, 0] g slices_S2x2048_S1x2048_0_0) shapeCasts_S1x2048_S2048)))) shapeCasts_S4x2048x2048_S8192x2048) bitsLt_bf16_f32

/-- One entry of the residual plus one row of the merged branches against one column of layer 0's weights. -/
def lin (a : FVec Ideal S4x2048x2048 .bf16) (w : FVec Ideal S2x2048x2048 .f32) (x : FVec Ideal S4x2048x2048 .f32) (r : Fin 8192) (q : Fin 2048) : EReal :=
  shapeCast S8192x2048 x shapeCasts_S4x2048x2048_S8192x2048 (ix2 r q) + ∑ k : Fin 2048, shapeCast S8192x2048 a shapeCasts_S4x2048x2048_S8192x2048 (ix2 r k) * w (ix3 0 k q)

/-- One row scaled by the reciprocal root of its mean square. -/
def norm (x : Fin 2048 → EReal) (g : EReal) (q : Fin 2048) : EReal :=
  x q * Ideal.rsqrt (Ideal.div (∑ k : Fin 2048, x k * x k) (Ideal.ofBits FTy.f32 0x45000000#32) + Ideal.ofBits FTy.f32 0x358637BD#32) * g

theorem res_apply (a : FVec Ideal S4x2048x2048 .bf16) (w : FVec Ideal S2x2048x2048 .f32) (x : FVec Ideal S4x2048x2048 .f32) (r : Fin 8192) (q : Fin 2048) :
    res a w x (ix2 r q) = lin a w x r q := by
  unfold res lin
  pointwise

theorem res2_apply (a : FVec Ideal S4x2048x2048 .bf16) (w : FVec Ideal S2x2048x2048 .f32) (x : FVec Ideal S4x2048x2048 .f32) (g : FVec Ideal S2x2048 .f32) (r : Fin 8192) (q : Fin 2048) :
    res2 a w x g (ix2 r q) = norm (lin a w x r) (g (ix2 0 q)) q := by
  unfold res2 norm lin
  pointwise

theorem pay2_apply (x2 : Vec Ideal S512x2048 .f32) (x0 : Vec Ideal S512x2048 .bf16) (x1 : Vec Ideal S2048x2048 .bf16) (r : Fin 512) (q : Fin 2048) :
    k0_pay2 x2 x0 x1 (ix2 r q) = x2 (ix2 r q) + ∑ k : Fin 2048, x0 (ix2 r k) * x1 (ix2 k q) := by
  pointwise [k0_pay2]

theorem pay3_apply (x2 : Vec Ideal S512x2048 .f32) (x0 : Vec Ideal S512x2048 .bf16) (x1 : Vec Ideal S2048x2048 .bf16) (x3 : Vec Ideal S1x2048 .f32) (r : Fin 512) (q : Fin 2048) :
    k0_pay3 x2 x0 x1 x3 (ix2 r q) = norm (fun q => x2 (ix2 r q) + ∑ k : Fin 2048, x0 (ix2 r k) * x1 (ix2 k q)) (x3 (ix2 0 q)) q := by
  unfold norm
  pointwise [k0_pay3, k0_pay2]

/-- The result arrays as the reference's functions of the arguments. -/
def result (c : Dev nD) : Buf (Elt Ideal) ((c.tc : Thread nD τ).loc main_v5_0) := res (m ((c.tc : Thread nD τ).loc main_arg0)) (m ((c.tc : Thread nD τ).loc main_arg1)) (m ((c.tc : Thread nD τ).loc main_arg2))
def result2 (c : Dev nD) : Buf (Elt Ideal) ((c.tc : Thread nD τ).loc main_v5_1) := res2 (m ((c.tc : Thread nD τ).loc main_arg0)) (m ((c.tc : Thread nD τ).loc main_arg1)) (m ((c.tc : Thread nD τ).loc main_arg2)) (m ((c.tc : Thread nD τ).loc main_arg3))

theorem covers4 : (cfg0.win 4).Covers := by decide +kernel
theorem covers5 : (cfg0.win 5).Covers := by decide +kernel

theorem after_apply4 (c : Dev nD) (t : Fin cfg0.N) (r : Fin 512) (q : Fin 2048) : (dats m 0 c).after 4 t (ix2 r q) = k0_pay2 (iblk m c 2 t) (iblk m c 0 t) (k0_pay1 (iblk m c 1 t)) (ix2 r q) := by
  rw [after0_4, state_eq]

theorem after_apply5 (c : Dev nD) (t : Fin cfg0.N) (r : Fin 512) (q : Fin 2048) : (dats m 0 c).after 5 t (ix2 r q) = k0_pay3 (iblk m c 2 t) (iblk m c 0 t) (k0_pay1 (iblk m c 1 t)) (iblk m c 3 t) (ix2 r q) := by
  rw [after0_5, state_eq]

theorem point4 (c : Dev nD) (t : Fin cfg0.N) (y : ((cfg0.win 4).xblock (cfg0.grid.coords t)).Idx) : (dats m 0 c).after 4 t y = result m c (((cfg0.win 4).blk t).view.emb y) := by
  obtain ⟨r, q, rfl⟩ : ∃ (r : Fin 512) (q : Fin 2048), y = ix2 r q := ⟨y 0, y 1, eq_ix2 y⟩
  obtain ⟨e4, e5, e0, e1, e2, e3⟩ := idx_facts t
  have h : ((cfg0.win 4).blk t).view.emb (ix2 r q) = ix2 (⟨t.val * 512 + r.val, by have := t.isLt; have := lt_of_lt_of_eq this (show cfg0.N = 16 from N_0); omega⟩ : Fin 8192) q := by
    blk_ext [e4]
  rw [h]
  refine (after_apply4 m c t r q).trans ?_
  unfold result
  rw [res_apply, pay2_apply]
  simp only [pay1_apply, blk0, blk1, blk2]
  rfl

/-- What the region leaves in the result array is the reference's function of the arguments. -/
theorem final4 (c : Dev nD) : (dats m 0 c).arrAt 4 cfg0.N = result m c :=
  (dats m 0 c).arrAt_eq_of_covers 4 _ covers4 fun t hf y => point4 m c t y

theorem point5 (c : Dev nD) (t : Fin cfg0.N) (y : ((cfg0.win 5).xblock (cfg0.grid.coords t)).Idx) : (dats m 0 c).after 5 t y = result2 m c (((cfg0.win 5).blk t).view.emb y) := by
  obtain ⟨r, q, rfl⟩ : ∃ (r : Fin 512) (q : Fin 2048), y = ix2 r q := ⟨y 0, y 1, eq_ix2 y⟩
  obtain ⟨e4, e5, e0, e1, e2, e3⟩ := idx_facts t
  have h : ((cfg0.win 5).blk t).view.emb (ix2 r q) = ix2 (⟨t.val * 512 + r.val, by have := t.isLt; have := lt_of_lt_of_eq this (show cfg0.N = 16 from N_0); omega⟩ : Fin 8192) q := by
    blk_ext [e5]
  rw [h]
  refine (after_apply5 m c t r q).trans ?_
  unfold result2
  rw [res2_apply, pay3_apply, blk3]
  simp only [pay1_apply, blk0, blk1, blk2]
  rfl

/-- What the region leaves in the result array is the reference's function of the arguments. -/
theorem final5 (c : Dev nD) : (dats m 0 c).arrAt 5 cfg0.N = result2 m c :=
  (dats m 0 c).arrAt_eq_of_covers 5 _ covers5 fun t hf y => point5 m c t y

theorem run : θ_run defs (onTc (τ := τ) (main (F := Ideal))) ⟨m, fun _ => 0, ρ⟩ fun r => ∀ c : Dev nD,
      r.2.mem ((c.tc : Thread nD τ).loc main_v5_0) = result m c
      ∧ r.2.mem ((c.tc : Thread nD τ).loc main_v5_1) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2⟩) (Value.run_blocks m ρ)

end Cert.OutProjIdeal.RefValue

open Idealize.ShloMosaic Idealize.ShloMosaic.TcCoe Idealize.SL.Sem in
/-- The output projection and its reference leave equal results. -/
theorem Cert.Proof.out_algebraic : Cert.algebraic_OutProjIdeal_RefOutIdeal := by
  intro m g m' g' _ hag
  refine ⟨Cert.OutProjIdeal.RefValue.result m, Cert.OutProjIdeal.RefValue.result2 m, Cert.OutProjIdeal.RefValue.run m g, ?_⟩
  refine (θ_run _ _ _).mono (fun r h c => ?_) (Cert.RefOutIdeal.Value.run m' g')
  obtain ⟨h0, h1, h2, h3, h4, h5⟩ := h c
  obtain ⟨a0, a1, a2, a3⟩ := hag c
  refine ⟨?_, ?_, h2, h3, h4, h5⟩
  · simp only [h0, a0, a1, a2, a3]
    rfl
  · simp only [h1, a0, a1, a2, a3]
    rfl

end
-- ==== Proof.FinalValue.lean ====
module

public import proofs.«01_k».proof.Proof.Gen.FinalNormIdeal.Value
public import proofs.«01_k».proof.Defs
public import proofs.«01_k».proof.Proof.Gen.RefFinalIdeal.Run
public import Idealize.ShloMosaic.Lib.Pipeline.ValueKit.Acc
public import Idealize.ShloMosaic.Lib.Pipeline.ValueKit.Geometry
public import Idealize.ShloMosaic.Lib.Pointwise
public import Idealize.ShloMosaic.Lib.Tactic

@[expose] public section

set_option maxRecDepth 16384

noncomputable section

namespace Cert.FinalNormIdeal.RefValue

open Cert.FinalNormIdeal Cert.FinalNormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the reference computes, as one function of the two arguments. -/
def res (x : FVec Ideal S4x2048x2048 .f32) (g : FVec Ideal S2048 .f32) : FVec Ideal S8192x2048 .f32 :=
  shapeCast _ (mulf (mulf x (broadcastInDim S4x2048x2048 ![0, 1, 2] Cert.RefFinalIdeal.Gen.bcast_S4x2048x1_S4x2048x2048_0_1_2 (Host.rsqrt (addf (Host.divf (broadcastInDim Cert.RefFinalIdeal.S4x2048x1 ![0, 1] Cert.RefFinalIdeal.Gen.bcast_S4x2048_S4x2048x1_0_1 (Host.reduceAdd (mulf x x) (constant Cert.RefFinalIdeal.S_ .f32 0x00000000#32) Cert.RefFinalIdeal.Gen.reducesTo_S4x2048x2048_S4x2048_d2 Cert.RefFinalIdeal.Gen.h_S_)) (broadcastInDim Cert.RefFinalIdeal.S4x2048x1 ![] Cert.RefFinalIdeal.Gen.bcast_S_S4x2048x1 (constant Cert.RefFinalIdeal.S_ .f32 0x45000000#32))) (broadcastInDim Cert.RefFinalIdeal.S4x2048x1 ![] Cert.RefFinalIdeal.Gen.bcast_S_S4x2048x1 (constant Cert.RefFinalIdeal.S_ .f32 0x358637BD#32)))))) (broadcastInDim S4x2048x2048 ![0, 1, 2] Cert.RefFinalIdeal.Gen.bcast_S1x1x2048_S4x2048x2048_0_1_2 (broadcastInDim Cert.RefFinalIdeal.S1x1x2048 ![2] Cert.RefFinalIdeal.Gen.bcast_S2048_S1x1x2048_2 g))) shapeCasts_S4x2048x2048_S8192x2048

theorem rows_entry (c : Dev nD) : V (F := Ideal) m c main_v0 = shapeCast S8192x2048 (m ((c.tc : Thread nD τ).loc main_arg0)) shapeCasts_S4x2048x2048_S8192x2048 := by
  unfold V hostOps0
  after_results <;> rfl

theorem gain_entry (c : Dev nD) : V (F := Ideal) m c main_v1 = shapeCast S1x2048 (m ((c.tc : Thread nD τ).loc main_arg1)) shapeCasts_S2048_S1x2048 := by
  unfold V hostOps0
  after_results <;> rfl

/-- The block indices at a grid point. -/
theorem idx_facts : ∀ t : Fin cfg0.N, win0_2.index t = ![(grid0.coords t 0).val, 0] ∧ win0_0.index t = ![(grid0.coords t 0).val, 0] ∧ win0_1.index t = ![0, 0] :=
  (by decide +kernel : ∀ t : Fin grid0.N, _)

theorem hi (t : Fin cfg0.N) : (grid0.coords t 0).val < 8 := (grid0.coords t 0).isLt

/-- One row scaled by the reciprocal root of its mean square. -/
def norm (x : Fin 2048 → EReal) (g : EReal) (q : Fin 2048) : EReal :=
  x q * Ideal.rsqrt (Ideal.div (∑ k : Fin 2048, x k * x k) (Ideal.ofBits FTy.f32 0x45000000#32) + Ideal.ofBits FTy.f32 0x358637BD#32) * g

theorem res_apply (x : FVec Ideal S4x2048x2048 .f32) (g : FVec Ideal S2048 .f32) (r : Fin 8192) (q : Fin 2048) :
    res x g (ix2 r q) = norm (fun k => shapeCast S8192x2048 x shapeCasts_S4x2048x2048_S8192x2048 (ix2 r k)) (g (ix1 q)) q := by
  unfold res norm
  pointwise

theorem pay_apply (x : Vec Ideal S1024x2048 .f32) (g : Vec Ideal S1x2048 .f32) (r : Fin 1024) (q : Fin 2048) :
    k0_pay1 x g (ix2 r q) = norm (fun k => x (ix2 r k)) (g (ix2 0 q)) q := by
  unfold norm
  pointwise [k0_pay1]

theorem blk0 (c : Dev nD) (t : Fin cfg0.N) (r : Fin 1024) (k : Fin 2048) :
    iblk m c 0 t (ix2 r k) = shapeCast S8192x2048 (m ((c.tc : Thread nD τ).loc main_arg0)) shapeCasts_S4x2048x2048_S8192x2048 (ix2 (⟨(grid0.coords t 0).val * 1024 + r.val, by have := hi t; omega⟩ : Fin 8192) k) := by
  obtain ⟨e2, e0, e1⟩ := idx_facts t
  have h : ((cfg0.win 0).blk t).view.emb (ix2 r k) = ix2 (⟨(grid0.coords t 0).val * 1024 + r.val, by have := hi t; omega⟩ : Fin 8192) k := by
    blk_ext [e0]
  show V m c main_v0 (((cfg0.win 0).blk t).view.emb (ix2 r k)) = _
  rw [h, rows_entry]

theorem blk1 (c : Dev nD) (t : Fin cfg0.N) (q : Fin 2048) :
    iblk m c 1 t (ix2 0 q) = m ((c.tc : Thread nD τ).loc main_arg1) (ix1 q) := by
  obtain ⟨e2, e0, e1⟩ := idx_facts t
  have h : ((cfg0.win 1).blk t).view.emb (ix2 0 q) = ix2 (0 : Fin 1) q := by
    blk_ext [e1]
  show V m c main_v1 (((cfg0.win 1).blk t).view.emb (ix2 0 q)) = _
  rw [h, gain_entry]
  pointwise

/-- The result array as the reference's function of the arguments. -/
def result (c : Dev nD) : Buf (Elt Ideal) ((c.tc : Thread nD τ).loc main_v2) := res (m ((c.tc : Thread nD τ).loc main_arg0)) (m ((c.tc : Thread nD τ).loc main_arg1))

theorem covers : (cfg0.win 2).Covers := by decide +kernel

theorem after_apply (c : Dev nD) (t : Fin cfg0.N) (r : Fin 1024) (q : Fin 2048) : (dats m 0 c).after 2 t (ix2 r q) = k0_pay1 (iblk m c 0 t) (iblk m c 1 t) (ix2 r q) := by
  rw [after0_2]; frame_out

theorem point (c : Dev nD) (t : Fin cfg0.N) (y : ((cfg0.win 2).xblock (cfg0.grid.coords t)).Idx) : (dats m 0 c).after 2 t y = result m c (((cfg0.win 2).blk t).view.emb y) := by
  obtain ⟨r, q, rfl⟩ : ∃ (r : Fin 1024) (q : Fin 2048), y = ix2 r q := ⟨y 0, y 1, eq_ix2 y⟩
  obtain ⟨e2, e0, e1⟩ := idx_facts t
  have h : ((cfg0.win 2).blk t).view.emb (ix2 r q) = ix2 (⟨(grid0.coords t 0).val * 1024 + r.val, by have := hi t; omega⟩ : Fin 8192) q := by
    blk_ext [e2]
  rw [h]
  refine (after_apply m c t r q).trans ?_
  unfold result
  rw [res_apply, pay_apply, blk1]
  simp only [blk0]

/-- What the region leaves in the result array is the reference's function of the arguments. -/
theorem final (c : Dev nD) : (dats m 0 c).arrAt 2 cfg0.N = result m c :=
  (dats m 0 c).arrAt_eq_of_covers 2 _ covers fun t hf y => point m c t y

theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Value.run_blocks m ρ)

end Cert.FinalNormIdeal.RefValue

open Idealize.ShloMosaic Idealize.ShloMosaic.TcCoe Idealize.SL.Sem in
/-- The final normalisation and its reference leave equal results. -/
theorem Cert.Proof.final_algebraic : Cert.algebraic_FinalNormIdeal_RefFinalIdeal := by
  intro m g m' g' _ hag
  refine ⟨Cert.FinalNormIdeal.RefValue.result m, Cert.FinalNormIdeal.RefValue.run m g, ?_⟩
  refine (θ_run _ _ _).mono (fun r h c => ?_) (Cert.RefFinalIdeal.Value.run m' g')
  obtain ⟨h0, h1, h2⟩ := h c
  obtain ⟨a0, a1⟩ := hag c
  refine ⟨?_, h1, h2⟩
  · rw [h0, a0, a1]
    rfl

end
-- ==== Proof.lean ====
module

public import proofs.«01_k».proof.Defs
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.RefNormIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.RefUpIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.RefDownIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.RefMergeIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.RefOutIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.RefFinalIdeal
public import proofs.«01_k».proof.Proof.Gen.FfnNormIdeal.Value
public import proofs.«01_k».proof.Proof.Gen.RefNormIdeal.Run
public import proofs.«01_k».proof.Proof.Gen.FfnUpIdeal.Value
public import proofs.«01_k».proof.Proof.Gen.RefUpIdeal.Run
public import proofs.«01_k».proof.Proof.Gen.FfnDownIdeal.Value
public import proofs.«01_k».proof.Proof.Gen.RefDownIdeal.Run
public import proofs.«01_k».proof.Proof.Gen.RefInIdeal.Run
public import proofs.«01_k».proof.Proof.Gen.MergeIdeal.Value
public import proofs.«01_k».proof.Proof.Gen.RefMergeIdeal.Run
public import proofs.«01_k».proof.Proof.Gen.OutProjIdeal.Value
public import proofs.«01_k».proof.Proof.Gen.RefOutIdeal.Run
public import proofs.«01_k».proof.Proof.Gen.FinalNormIdeal.Value
public import proofs.«01_k».proof.Proof.Gen.RefFinalIdeal.Run
public import proofs.«01_k».proof.Proof.NormValue
public import proofs.«01_k».proof.Proof.UpValue
public import proofs.«01_k».proof.Proof.DownValue
public import proofs.«01_k».proof.Proof.InValue
public import proofs.«01_k».proof.Proof.MergeValue
public import proofs.«01_k».proof.Proof.OutValue
public import proofs.«01_k».proof.Proof.FinalValue
public import Idealize.ShloMosaic.Adequacy
public import Idealize.ShloMosaic.Init

@[expose] public section

noncomputable section

namespace Cert.Proof

open Idealize.ShloMosaic Idealize.SL.Sem

/-- The run of the reference leaves its arguments as they were, and it declares no semaphore. -/
theorem norm_reference : Cert.quiescent_RefNormIdeal := fun m ρ _ =>
  (θ_run _ _ _).mono (fun r h => ⟨fun c => (h c).2, sem_eq_zero_of_no_sems (by decide) r.2⟩) (Cert.RefNormIdeal.Value.run m ρ)

/-- The run of the reference leaves its arguments as they were, and it declares no semaphore. -/
theorem up_reference : Cert.quiescent_RefUpIdeal := fun m ρ _ =>
  (θ_run _ _ _).mono (fun r h => ⟨fun c => (h c).2, sem_eq_zero_of_no_sems (by decide) r.2⟩) (Cert.RefUpIdeal.Value.run m ρ)

/-- The run of the reference leaves its arguments as they were, and it declares no semaphore. -/
theorem down_reference : Cert.quiescent_RefDownIdeal := fun m ρ _ =>
  (θ_run _ _ _).mono (fun r h => ⟨fun c => (h c).2, sem_eq_zero_of_no_sems (by decide) r.2⟩) (Cert.RefDownIdeal.Value.run m ρ)

/-- The run of the reference leaves its arguments as they were, and it declares no semaphore. -/
theorem in_reference : Cert.quiescent_RefInIdeal := fun m ρ _ =>
  (θ_run _ _ _).mono (fun r h => ⟨fun c => (h c).2.2, sem_eq_zero_of_no_sems (by decide) r.2⟩) (Cert.RefInIdeal.Value.run m ρ)

/-- The run of the reference leaves its arguments as they were, and it declares no semaphore. -/
theorem merge_reference : Cert.quiescent_RefMergeIdeal := fun m ρ _ =>
  (θ_run _ _ _).mono (fun r h => ⟨fun c => (h c).2, sem_eq_zero_of_no_sems (by decide) r.2⟩) (Cert.RefMergeIdeal.Value.run m ρ)

/-- The run of the reference leaves its arguments as they were, and it declares no semaphore. -/
theorem out_reference : Cert.quiescent_RefOutIdeal := fun m ρ _ =>
  (θ_run _ _ _).mono (fun r h => ⟨fun c => (h c).2.2, sem_eq_zero_of_no_sems (by decide) r.2⟩) (Cert.RefOutIdeal.Value.run m ρ)

/-- The run of the reference leaves its arguments as they were, and it declares no semaphore. -/
theorem final_reference : Cert.quiescent_RefFinalIdeal := fun m ρ _ =>
  (θ_run _ _ _).mono (fun r h => ⟨fun c => (h c).2, sem_eq_zero_of_no_sems (by decide) r.2⟩) (Cert.RefFinalIdeal.Value.run m ρ)

/-- The kernel and the ideal program call the same bodies. -/
theorem in_bodies : Cert.InProj.defs₀ (F := Bits) = Cert.InProjIdeal.defs₀ (F := Bits) := by
  unfold Cert.InProj.defs₀ Cert.InProjIdeal.defs₀
  refine congrArg Defs.onTc ?_
  funext l a
  match l, a with
  | ⟨0, _⟩, _ => rfl
  | ⟨n + 1, h⟩, _ => exact absurd h (Nat.not_lt.2 (Nat.le_add_left _ _))

theorem in_defs : Cert.InProj.defs (F := Bits) = Cert.InProjIdeal.defs (F := Bits) :=
  congrArg (Pipeline.defs (Cert.InProjIdeal.pcfgs (F := Bits))) in_bodies

/-- The run that is written for the ideal program holds over any floats, and the kernel is the same text. -/
theorem in_kernel : Cert.quiescent_InProj := fun m ρ _ => by
  rw [in_defs]
  exact Cert.InProjIdeal.Gen.frame (F := Bits) m ρ
/-- The frames of every program, then for every call: the ideal program is the call over the extended reals, and it computes what its reference computes. -/
theorem claim : Cert.Claim := ⟨Cert.FfnNorm.Gen.facts, Cert.FfnNormIdeal.Gen.facts, Cert.RefNormIdeal.Gen.facts, Cert.FfnUp.Gen.facts, Cert.FfnUpIdeal.Gen.facts, Cert.RefUpIdeal.Gen.facts, Cert.FfnDown.Gen.facts, Cert.FfnDownIdeal.Gen.facts, Cert.RefDownIdeal.Gen.facts, Cert.InProj.Gen.facts, Cert.InProjIdeal.Gen.facts, Cert.RefInIdeal.Gen.facts, Cert.Merge.Gen.facts, Cert.MergeIdeal.Gen.facts, Cert.RefMergeIdeal.Gen.facts, Cert.OutProj.Gen.facts, Cert.OutProjIdeal.Gen.facts, Cert.RefOutIdeal.Gen.facts, Cert.FinalNorm.Gen.facts, Cert.FinalNormIdeal.Gen.facts, Cert.RefFinalIdeal.Gen.facts,
  fun m ρ _ => Cert.FfnNorm.Gen.frame m ρ, fun m ρ _ => Cert.FfnNormIdeal.Gen.frame m ρ, norm_reference, fun m ρ _ => Cert.FfnUp.Gen.frame m ρ, fun m ρ _ => Cert.FfnUpIdeal.Gen.frame m ρ, up_reference, fun m ρ _ => Cert.FfnDown.Gen.frame m ρ, fun m ρ _ => Cert.FfnDownIdeal.Gen.frame m ρ, down_reference, in_kernel, fun m ρ _ => Cert.InProjIdeal.Gen.frame m ρ, in_reference, fun m ρ _ => Cert.Merge.Gen.frame m ρ, fun m ρ _ => Cert.MergeIdeal.Gen.frame m ρ, merge_reference, fun m ρ _ => Cert.OutProj.Gen.frame m ρ, fun m ρ _ => Cert.OutProjIdeal.Gen.frame m ρ, out_reference, fun m ρ _ => Cert.FinalNorm.Gen.frame m ρ, fun m ρ _ => Cert.FinalNormIdeal.Gen.frame m ρ, final_reference,
  trivial, norm_algebraic, trivial, up_algebraic, trivial, down_algebraic, trivial, in_algebraic, trivial, merge_algebraic, trivial, out_algebraic, trivial, final_algebraic⟩

end Cert.Proof

end
